-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![256, 1]⟩ ⟨2, ![8192, 1]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 128, 256]⟩ ⟨3, ![64, 128, 256]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![8192, 256]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x64 : Shape := ⟨2, ![128, 64]⟩
abbrev S256x1 : Shape := ⟨2, ![256, 1]⟩
abbrev S2x128x256 : Shape := ⟨3, ![2, 128, 256]⟩
abbrev S256x256 : Shape := ⟨2, ![256, 256]⟩
abbrev S32x264x256 : Shape := ⟨3, ![32, 264, 256]⟩
abbrev S16 : Shape := ⟨1, ![16]⟩
abbrev S15 : Shape := ⟨1, ![15]⟩
abbrev S_ : Shape := ⟨0, ![]⟩
abbrev S256x64 : Shape := ⟨2, ![256, 64]⟩
abbrev S1x128x256 : Shape := ⟨3, ![1, 128, 256]⟩
abbrev S128x256 : Shape := ⟨2, ![128, 256]⟩
abbrev S8x256 : Shape := ⟨2, ![8, 256]⟩
abbrev S1x8x256 : Shape := ⟨3, ![1, 8, 256]⟩
abbrev S64 : Shape := ⟨1, ![64]⟩
abbrev S1x64 : Shape := ⟨2, ![1, 64]⟩
abbrev S1x1x64 : Shape := ⟨3, ![1, 1, 64]⟩
abbrev S256 : Shape := ⟨1, ![256]⟩
abbrev S1 : Shape := ⟨1, ![1]⟩
abbrev S1x264x256 : Shape := ⟨3, ![1, 264, 256]⟩
abbrev S264x256 : Shape := ⟨2, ![264, 256]⟩

abbrev nBuf : Space → Nat
  | .hbm => 5
  | .vmem => 5
  | .smem => 0
  | _ => 0

abbrev bufTy : (tb : Table) → Fin (tcTables nBuf tb) → BufTy
  | .hbm, ⟨0, _⟩ => ⟨S256x128, .f32⟩
  | .hbm, ⟨1, _⟩ => ⟨S128x64, .f32⟩
  | .hbm, ⟨2, _⟩ => ⟨S256x1, .i32⟩
  | .hbm, ⟨3, _⟩ => ⟨S2x128x256, .f32⟩
  | .hbm, ⟨4, _⟩ => ⟨S256x256, .f32⟩
  | .local _ .vmem, ⟨0, _⟩ => ⟨S256x128, .f32⟩
  | .local _ .vmem, ⟨1, _⟩ => ⟨S256x1, .i32⟩
  | .local _ .vmem, ⟨2, _⟩ => ⟨S2x128x256, .f32⟩
  | .local _ .vmem, ⟨3, _⟩ => ⟨S256x256, .f32⟩
  | .local _ .vmem, ⟨4, _⟩ => ⟨S32x264x256, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_8 : BitVec 32 := 1#32
  let v11 : BitVec 32 := Scalar.muli v4 c1_i32_8
  let v12 : BitVec 32 := Scalar.addi c0_i32_9 v11
  v12.toNat
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_37 : BitVec 32 := 1#32
  let v52 : BitVec 32 := Scalar.muli v4 c1_i32_37
  let v53 : BitVec 32 := Scalar.addi c0_i32_38 v52
  v53.toNat
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_46 : BitVec 32 := 1#32
  let v62 : BitVec 32 := Scalar.muli v7 c1_i32_46
  let v63 : BitVec 32 := Scalar.addi c0_i32_47 v62
  v63.toNat
def k0_dev5 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_105 : BitVec 32 := 1#32
  let v127 : BitVec 32 := Scalar.muli v4 c1_i32_105
  let v128 : BitVec 32 := Scalar.addi c0_i32_106 v127
  v128.toNat
def k0_dev6 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_114 : BitVec 32 := 1#32
  let v137 : BitVec 32 := Scalar.muli v7 c1_i32_114
  let v138 : BitVec 32 := Scalar.addi c0_i32_115 v137
  v138.toNat
def k0_dev7 (d0 : Dev nD) : Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_184 : BitVec 32 := 1#32
  let v247 : BitVec 32 := Scalar.muli v4 c1_i32_184
  let v248 : BitVec 32 := Scalar.addi c0_i32_185 v247
  v248.toNat
def k0_dev8 (d0 : Dev nD) : Nat :=
  let c0_i32_194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_193 : BitVec 32 := 1#32
  let v257 : BitVec 32 := Scalar.muli v7 c1_i32_193
  let v258 : BitVec 32 := Scalar.addi c0_i32_194 v257
  v258.toNat
def k0_dev9 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_262 : BitVec 32 := 1#32
  let v367 : BitVec 32 := Scalar.muli v4 c1_i32_262
  let v368 : BitVec 32 := Scalar.addi c0_i32_263 v367
  v368.toNat
def k0_dev10 (d0 : Dev nD) : Nat :=
  let c0_i32_272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_271 : BitVec 32 := 1#32
  let v377 : BitVec 32 := Scalar.muli v7 c1_i32_271
  let v378 : BitVec 32 := Scalar.addi c0_i32_272 v377
  v378.toNat
def k0_dev11 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_340 : BitVec 32 := 1#32
  let v487 : BitVec 32 := Scalar.muli v4 c1_i32_340
  let v488 : BitVec 32 := Scalar.addi c0_i32_341 v487
  v488.toNat
def k0_dev12 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_349 : BitVec 32 := 1#32
  let v497 : BitVec 32 := Scalar.muli v7 c1_i32_349
  let v498 : BitVec 32 := Scalar.addi c0_i32_350 v497
  v498.toNat
def k0_dev13 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_418 : BitVec 32 := 1#32
  let v607 : BitVec 32 := Scalar.muli v4 c1_i32_418
  let v608 : BitVec 32 := Scalar.addi c0_i32_419 v607
  v608.toNat
def k0_dev14 (d0 : Dev nD) : Nat :=
  let c0_i32_428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_427 : BitVec 32 := 1#32
  let v617 : BitVec 32 := Scalar.muli v7 c1_i32_427
  let v618 : BitVec 32 := Scalar.addi c0_i32_428 v617
  v618.toNat
def k0_dev15 (d0 : Dev nD) : Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_496 : BitVec 32 := 1#32
  let v727 : BitVec 32 := Scalar.muli v4 c1_i32_496
  let v728 : BitVec 32 := Scalar.addi c0_i32_497 v727
  v728.toNat
def k0_dev16 (d0 : Dev nD) : Nat :=
  let c0_i32_506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_505 : BitVec 32 := 1#32
  let v737 : BitVec 32 := Scalar.muli v7 c1_i32_505
  let v738 : BitVec 32 := Scalar.addi c0_i32_506 v737
  v738.toNat
def k0_dev17 (d0 : Dev nD) : Nat :=
  let c0_i32_575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_574 : BitVec 32 := 1#32
  let v847 : BitVec 32 := Scalar.muli v4 c1_i32_574
  let v848 : BitVec 32 := Scalar.addi c0_i32_575 v847
  v848.toNat
def k0_dev18 (d0 : Dev nD) : Nat :=
  let c0_i32_584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_583 : BitVec 32 := 1#32
  let v857 : BitVec 32 := Scalar.muli v7 c1_i32_583
  let v858 : BitVec 32 := Scalar.addi c0_i32_584 v857
  v858.toNat
def k0_dev19 (d0 : Dev nD) : Nat :=
  let c0_i32_653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_652 : BitVec 32 := 1#32
  let v967 : BitVec 32 := Scalar.muli v4 c1_i32_652
  let v968 : BitVec 32 := Scalar.addi c0_i32_653 v967
  v968.toNat
def k0_dev20 (d0 : Dev nD) : Nat :=
  let c0_i32_662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_661 : BitVec 32 := 1#32
  let v977 : BitVec 32 := Scalar.muli v7 c1_i32_661
  let v978 : BitVec 32 := Scalar.addi c0_i32_662 v977
  v978.toNat
def k0_dev21 (d0 : Dev nD) : Nat :=
  let c0_i32_731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_730 : BitVec 32 := 1#32
  let v1087 : BitVec 32 := Scalar.muli v4 c1_i32_730
  let v1088 : BitVec 32 := Scalar.addi c0_i32_731 v1087
  v1088.toNat
def k0_dev22 (d0 : Dev nD) : Nat :=
  let c0_i32_740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_739 : BitVec 32 := 1#32
  let v1097 : BitVec 32 := Scalar.muli v7 c1_i32_739
  let v1098 : BitVec 32 := Scalar.addi c0_i32_740 v1097
  v1098.toNat
def k0_dev23 (d0 : Dev nD) : Nat :=
  let c0_i32_809 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_808 : BitVec 32 := 1#32
  let v1207 : BitVec 32 := Scalar.muli v4 c1_i32_808
  let v1208 : BitVec 32 := Scalar.addi c0_i32_809 v1207
  v1208.toNat
def k0_dev24 (d0 : Dev nD) : Nat :=
  let c0_i32_818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_817 : BitVec 32 := 1#32
  let v1217 : BitVec 32 := Scalar.muli v7 c1_i32_817
  let v1218 : BitVec 32 := Scalar.addi c0_i32_818 v1217
  v1218.toNat
def k0_dev25 (d0 : Dev nD) : Nat :=
  let c0_i32_887 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_886 : BitVec 32 := 1#32
  let v1327 : BitVec 32 := Scalar.muli v4 c1_i32_886
  let v1328 : BitVec 32 := Scalar.addi c0_i32_887 v1327
  v1328.toNat
def k0_dev26 (d0 : Dev nD) : Nat :=
  let c0_i32_896 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_895 : BitVec 32 := 1#32
  let v1337 : BitVec 32 := Scalar.muli v7 c1_i32_895
  let v1338 : BitVec 32 := Scalar.addi c0_i32_896 v1337
  v1338.toNat
def k0_dev27 (d0 : Dev nD) : Nat :=
  let c0_i32_965 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_964 : BitVec 32 := 1#32
  let v1447 : BitVec 32 := Scalar.muli v4 c1_i32_964
  let v1448 : BitVec 32 := Scalar.addi c0_i32_965 v1447
  v1448.toNat
def k0_dev28 (d0 : Dev nD) : Nat :=
  let c0_i32_974 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_973 : BitVec 32 := 1#32
  let v1457 : BitVec 32 := Scalar.muli v7 c1_i32_973
  let v1458 : BitVec 32 := Scalar.addi c0_i32_974 v1457
  v1458.toNat
def k0_dev29 (d0 : Dev nD) : Nat :=
  let c0_i32_1043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1042 : BitVec 32 := 1#32
  let v1567 : BitVec 32 := Scalar.muli v4 c1_i32_1042
  let v1568 : BitVec 32 := Scalar.addi c0_i32_1043 v1567
  v1568.toNat
def k0_dev30 (d0 : Dev nD) : Nat :=
  let c0_i32_1052 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1051 : BitVec 32 := 1#32
  let v1577 : BitVec 32 := Scalar.muli v7 c1_i32_1051
  let v1578 : BitVec 32 := Scalar.addi c0_i32_1052 v1577
  v1578.toNat
def k0_dev31 (d0 : Dev nD) : Nat :=
  let c0_i32_1121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1120 : BitVec 32 := 1#32
  let v1687 : BitVec 32 := Scalar.muli v4 c1_i32_1120
  let v1688 : BitVec 32 := Scalar.addi c0_i32_1121 v1687
  v1688.toNat
def k0_dev32 (d0 : Dev nD) : Nat :=
  let c0_i32_1130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1129 : BitVec 32 := 1#32
  let v1697 : BitVec 32 := Scalar.muli v7 c1_i32_1129
  let v1698 : BitVec 32 := Scalar.addi c0_i32_1130 v1697
  v1698.toNat
def k0_dev33 (d0 : Dev nD) : Nat :=
  let c0_i32_1199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1198 : BitVec 32 := 1#32
  let v1807 : BitVec 32 := Scalar.muli v4 c1_i32_1198
  let v1808 : BitVec 32 := Scalar.addi c0_i32_1199 v1807
  v1808.toNat
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8192x128 : Shape := ⟨2, ![8192, 128]⟩
abbrev S128x64 : Shape := ⟨2, ![128, 64]⟩
abbrev S8192x1 : Shape := ⟨2, ![8192, 1]⟩
abbrev S64x128x256 : Shape := ⟨3, ![64, 128, 256]⟩
abbrev S8192 : Shape := ⟨1, ![8192]⟩
abbrev S1x8192 : Shape := ⟨2, ![1, 8192]⟩
abbrev S8192x8192 : Shape := ⟨2, ![8192, 8192]⟩
abbrev S_ : Shape := ⟨0, ![]⟩
abbrev S8192x128x256 : Shape := ⟨3, ![8192, 128, 256]⟩
abbrev S8192x256 : Shape := ⟨2, ![8192, 256]⟩

abbrev nBuf : Space → Nat
  | .hbm => 40
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x64, .f32⟩
  | .hbm, ⟨2, _⟩ => ⟨S8192x1, .i32⟩
  | .hbm, ⟨3, _⟩ => ⟨S64x128x256, .f32⟩
  | .hbm, ⟨4, _⟩ => ⟨S8192, .i32⟩
  | .hbm, ⟨5, _⟩ => ⟨S8192, .i32⟩
  | .hbm, ⟨6, _⟩ => ⟨S8192x1, .i32⟩
  | .hbm, ⟨7, _⟩ => ⟨S1x8192, .i32⟩
  | .hbm, ⟨8, _⟩ => ⟨S8192x8192, .i32⟩
  | .hbm, ⟨9, _⟩ => ⟨S8192x8192, .i32⟩
  | .hbm, ⟨10, _⟩ => ⟨S8192x8192, .i1⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S8192x8192, .i1⟩
  | .hbm, ⟨17, _⟩ => ⟨S8192x8192, .i32⟩
  | .hbm, ⟨18, _⟩ => ⟨S_, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i1⟩
  | .hbm, ⟨26, _⟩ => ⟨S8192, .i1⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S8192, .i1⟩
  | .hbm, ⟨31, _⟩ => ⟨S8192x1, .i32⟩
  | .hbm, ⟨32, _⟩ => ⟨S8192x128x256, .f32⟩
  | .hbm, ⟨33, _⟩ => ⟨S8192x256, .f32⟩
  | .hbm, ⟨34, _⟩ => ⟨S8192x1, .i1⟩
  | .hbm, ⟨35, _⟩ => ⟨S_, .f32⟩
  | .hbm, ⟨36, _⟩ => ⟨S_, .f32⟩
  | .hbm, ⟨37, _⟩ => ⟨S8192x256, .i1⟩
  | .hbm, ⟨38, _⟩ => ⟨S8192x256, .f32⟩
  | .hbm, ⟨39, _⟩ => ⟨S8192x256, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Program.lean ====
/-
# The kernel's body, hop by hop

The printed body of the kernel is one straight line of about two hundred and forty operations. Here it is
written again as a short program: a prologue, one definition of a hop of the ring taken sixteen times (the
last without its leftward copy), and an epilogue. `BodyEq` says that the printed body is that program.

Names. `xM`, `rM`, `wM`, `oM` are the staging buffers of the tokens, the routed experts, the device's two
experts and the result; `sM` is the scratch of thirty-two slots; `slotM j` is its slot `j`.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.Moe

open Cert.KernelIdeal Cert.KernelIdeal.Gen
open Idealize.ShloMosaic Idealize.SL.Sem

variable {F : FTy → Type} [FloatOps F]

/-! ## Buffers and semaphores -/

abbrev xM : Memref sig .tc .vmem S256x128 .f32 := Memref.whole cc0_stg0_0
abbrev rM : Memref sig .tc .vmem S256x1 .i32 := Memref.whole cc0_stg1_0
abbrev wM : Memref sig .tc .vmem S2x128x256 .f32 := Memref.whole cc0_stg2_0
abbrev oM : Memref sig .tc .vmem S256x256 .f32 := Memref.whole cc0_stg3_0
abbrev sM : Memref sig .tc .vmem S32x264x256 .f32 := Memref.whole cc0_scratch0

/-- A slot of the scratch lies inside it. -/
theorem inb_slot {j : ℕ} (hj : j < 32) : ∀ a, (![j, 0, 0] : Fin 3 → ℕ) a + S1x264x256.size a ≤ S32x264x256.size a := by
  intro a
  match a with
  | 0 => exact hj
  | 1 => exact Nat.le_refl 264
  | 2 => exact Nat.le_refl 256

/-- One semaphore of sixteen. -/
theorem inb_16 {h : ℕ} (hh : h < 16) : ∀ a, (![h] : Fin 1 → ℕ) a + S1.size a ≤ S16.size a := by
  intro a
  match a with
  | 0 => exact hh

/-- One semaphore of fifteen. -/
theorem inb_15 {h : ℕ} (hh : h < 15) : ∀ a, (![h] : Fin 1 → ℕ) a + S1.size a ≤ S15.size a := by
  intro a
  match a with
  | 0 => exact hh

/-- The box of slot `j`. -/
abbrev slotR (j : ℕ) (hj : j < 32) : Rect S32x264x256 := Rect.unit (s := S32x264x256) ![j, 0, 0] S1x264x256.size (inb_slot hj)

/-- Slot `j` of the scratch, as a 264 by 256 buffer. -/
abbrev slotM (j : ℕ) (hj : j < 32) : Memref sig .tc .vmem S264x256 .f32 :=
  (sM.slice (slotR j hj) (fun _ => rfl)).squeeze S264x256 squeezes_S1x264x256_S264x256

/-- The semaphores of hop `h`: the rightward copy's send and receive ones, and the leftward copy's. -/
abbrev rSend (h : ℕ) (hh : h < 16) : DmaSem sig :=
  (((cc0_scratch1 : DmaSems sig S16).slice (Rect.unit (s := S16) ![h] S1.size (inb_16 hh))).squeeze S_ squeezes_S1_S_).sem
abbrev rRecv (h : ℕ) (hh : h < 16) : DmaSem sig :=
  (((cc0_scratch2 : DmaSems sig S16).slice (Rect.unit (s := S16) ![h] S1.size (inb_16 hh))).squeeze S_ squeezes_S1_S_).sem
abbrev lSend (h : ℕ) (hh : h < 15) : DmaSem sig :=
  (((cc0_scratch3 : DmaSems sig S15).slice (Rect.unit (s := S15) ![h] S1.size (inb_15 hh))).squeeze S_ squeezes_S1_S_).sem
abbrev lRecv (h : ℕ) (hh : h < 15) : DmaSem sig :=
  (((cc0_scratch4 : DmaSems sig S15).slice (Rect.unit (s := S15) ![h] S1.size (inb_15 hh))).squeeze S_ squeezes_S1_S_).sem

/-- The barrier semaphore. -/
abbrev barSem : Sem sig := (SemArray.scalar (sig.barrier 0 rfl) : Sems sig S_).sem

/-- The device on the right, on the left, as the kernel computes them. -/
abbrev right' (d : Dev nD) : Dev nD := ⟨k0_dev3 d, k0_dev3_lt d⟩
abbrev left' (d : Dev nD) : Dev nD := ⟨k0_dev4 d, k0_dev4_lt d⟩

/-! ## The pure values -/

/-- The device's own number, as a word. -/
def me (d : Dev nD) : BitVec 32 := Scalar.remsi (Scalar.divsi (Dev.word d) 1#32) 32#32

/-- The first expert of the device whose chunk lies in slot `j`. -/
def firstExpert (v2 : BitVec 32) (j : ℕ) : BitVec 32 :=
  Scalar.muli 2#32 (Scalar.remsi (Scalar.addi (Scalar.subi v2 (BitVec.ofNat 32 j)) 32#32) 32#32)

/-- The 0/1 column of the tokens routed to expert `e`. -/
def routedTo (r : IVec S256x1 32) (e : BitVec 32) : FVec F S256x1 .f32 :=
  sitofp .f32 (extui 32 (cmpi .eq r (broadcast S256x1 e)) natLt_1_32)

/-- The two expert products of a slot's chunk, added. -/
def slotProduct (v2 : BitVec 32) (x : FVec F S256x128 .f32) (r : IVec S256x1 32) (j : ℕ) (g : Vec F S1x264x256 .f32) :
    FVec F S256x256 .f32 :=
  have s : FVec F S264x256 .f32 := shapeCast S264x256 g shapeCasts_S1x264x256_S264x256
  addf
    (matmul dot_S256x128_S128x256_S256x256_1_0_0_1_n_n none
      (mulf x (broadcastTo S256x128 (routedTo r (firstExpert v2 j)) broadcasts_S256x1_S256x128))
      (extractStridedSlice S128x256 ![0, 0] s slices_S264x256_o0_0_S128x256) (constant S256x256 .f32 0x00000000#32))
    (matmul dot_S256x128_S128x256_S256x256_1_0_0_1_n_n none
      (mulf x (broadcastTo S256x128 (routedTo r (Scalar.addi (firstExpert v2 j) 1#32)) broadcasts_S256x1_S256x128))
      (extractStridedSlice S128x256 ![128, 0] s slices_S264x256_o128_0_S128x256) (constant S256x256 .f32 0x00000000#32))

/-- How many tokens of a slot's device were routed to each token's expert, counted only for an earlier device. -/
def slotPrior (v2 : BitVec 32) (q : FVec F S256x64 .f32) (j : ℕ) (g : Vec F S1x264x256 .f32) : FVec F S256x1 .f32 :=
  have s : FVec F S264x256 .f32 := shapeCast S264x256 g shapeCasts_S1x264x256_S264x256
  mulf
    (shapeCast S256x1
      (multiReduction .add [1] S256
        (mulf q (broadcastTo S256x64 (extractStridedSlice S1x64 ![256, 0] s slices_S264x256_o256_0_S1x64) broadcasts_S1x64_S256x64))
        0x00000000#32 reduces_S256x64_S256 (.inl rfl) rfl) shapeCasts_S256_S256x1)
    (broadcast S256x1 (Scalar.sitofp .f32 (Scalar.extui (Scalar.cmpi .sge v2 (BitVec.ofNat 32 j)))))

/-- The product and the prior count, carried along the hops. -/
abbrev Acc (F : FTy → Type) := FVec F S256x256 .f32 × FVec F S256x1 .f32

/-- A slot `j ≥ 1` worked in. -/
def step (v2 : BitVec 32) (x : FVec F S256x128 .f32) (r : IVec S256x1 32) (q : FVec F S256x64 .f32) (j : ℕ)
    (g : Vec F S1x264x256 .f32) (a : Acc F) : Acc F :=
  (addf a.1 (slotProduct v2 x r j g), addf a.2 (slotPrior v2 q j g))

/-- Slot 0, the device's own chunk, worked in: it adds nothing to the prior count. -/
def step0 (v2 : BitVec 32) (x : FVec F S256x128 .f32) (r : IVec S256x1 32) (g : Vec F S1x264x256 .f32) : Acc F :=
  (addf k0_pay10 (slotProduct v2 x r 0 g), k0_pay14 k0_pay11 (Scalar.ofBits .f32 0x00000000#32))

/-- The result: the product where the prior count and the local one together stay below the capacity. -/
def result (p : FVec F S256x1 .f32) (a : Acc F) : FVec F S256x256 .f32 :=
  mulf a.1 (broadcastTo S256x256
    (sitofp .f32 (extui 32 (cmpf .olt (addf a.2 p) (broadcast S256x1 (Scalar.ofBits .f32 0x42CC0000#32))) natLt_1_32))
    broadcasts_S256x1_S256x256)

/-! ## The program -/

abbrev Body (F : FTy → Type) [FloatOps F] (α : Type) : Type _ := Prog (TpuEff nD τ sig (Elt F) Λ₀ .tc) α

/-- The rightward copy of hop `h`: slot `h` onto the right neighbour's slot `h + 1`. -/
def copyRight (d : Dev nD) (h : ℕ) (hh : h < 16) : Body F PUnit :=
  Prog.lift (.enqueueDma (slotM h (by omega)) (.remote (Dev.tc (right' d)) (slotM (h + 1) (by omega)) (.dma (rSend h hh)))
    (.dma (rRecv h hh)) ((View.wordExact_bits rfl).reshape _ _) ((View.wordExact_bits rfl).reshape _ _) ⟨⟨rfl, Or.inl rfl⟩, trivial⟩)

/-- The leftward copy of hop `h`: slot `j` onto the left neighbour's slot `31 - h`. -/
def copyLeft (d : Dev nD) (h j : ℕ) (hh : h < 15) (hj : j < 32) : Body F PUnit :=
  Prog.lift (.enqueueDma (slotM j hj) (.remote (Dev.tc (left' d)) (slotM (31 - h) (by omega)) (.dma (lSend h hh)))
    (.dma (lRecv h hh)) ((View.wordExact_bits rfl).reshape _ _) ((View.wordExact_bits rfl).reshape _ _) ⟨⟨rfl, Or.inl rfl⟩, trivial⟩)

/-- A slot read. -/
def loadSlot (j : ℕ) (hj : j < 32) : Body F (Vec F S1x264x256 .f32) :=
  Prog.lift (.load sM (slotR j hj).toLoadRect (View.loadsAt_vmem h_S1x264x256))

/-- A wait for the copy between slots `i` and `j` on a semaphore. -/
def waitOn (s : DmaSem sig) (i j : ℕ) (hi : i < 32) (hj : j < 32) : Body F PUnit :=
  Prog.lift (.waitDma2 s (slotM i hi) (slotM j hj) ((View.wordExact_bits rfl).reshape _ _) ((View.wordExact_bits rfl).reshape _ _))

/-- What the prologue leaves: the tokens, the routed experts, their one-hot rows and the local prefix counts. -/
structure Loaded (F : FTy → Type) where
  x : FVec F S256x128 .f32
  r : IVec S256x1 32
  q : FVec F S256x64 .f32
  p : FVec F S256x1 .f32

/-- The two signals and the wait of the barrier. -/
def barrier (d : Dev nD) : Body F PUnit := do
  semSignalWord (⟨k0_dev1 d, k0_dev1_lt d⟩ : Dev nD) barSem 1#32
  semSignalWord (⟨k0_dev2 d, k0_dev2_lt d⟩ : Dev nD) barSem 1#32
  semWaitWord barSem 2#32

/-- The device's own chunk is put together in slot 0. -/
def fill : Body F (Loaded F) := do
  let x : Vec F S256x128 .f32 ← Prog.lift (.load xM (Rect.unit (s := S256x128) ![0, 0] S256x128.size inb_S256x128_S256x128_0_0).toLoadRect (View.loadsAt_vmem h_S256x128))
  let r : Vec F S256x1 .i32 ← Prog.lift (.load rM (Rect.unit (s := S256x1) ![0, 0] S256x1.size inb_S256x1_S256x1_0_0).toLoadRect (View.loadsAt_vmem h_S256x1))
  let w0 : Vec F S1x128x256 .f32 ← Prog.lift (.load wM (Rect.unit (s := S2x128x256) ![0, 0, 0] S1x128x256.size inb_S2x128x256_S1x128x256_0_0_0).toLoadRect (View.loadsAt_vmem h_S1x128x256))
  let _ : Vec F S1x128x256 .f32 ← Prog.lift (.load sM (Rect.unit (s := S32x264x256) ![0, 0, 0] S1x128x256.size inb_S32x264x256_S1x128x256_0_0_0).toLoadRect (View.loadsAt_vmem h_S1x128x256))
  Prog.lift (.store sM (Rect.unit (s := S32x264x256) ![0, 0, 0] S1x128x256.size inb_S32x264x256_S1x128x256_0_0_0) (k0_pay5 w0) Finset.univ (View.stores_vmem_bits_univ h_S1x128x256 rfl) (.inl rfl))
  let w1 : Vec F S1x128x256 .f32 ← Prog.lift (.load wM (Rect.unit (s := S2x128x256) ![1, 0, 0] S1x128x256.size inb_S2x128x256_S1x128x256_1_0_0).toLoadRect (View.loadsAt_vmem h_S1x128x256))
  let _ : Vec F S1x128x256 .f32 ← Prog.lift (.load sM (Rect.unit (s := S32x264x256) ![0, 128, 0] S1x128x256.size inb_S32x264x256_S1x128x256_0_128_0).toLoadRect (View.loadsAt_vmem h_S1x128x256))
  Prog.lift (.store sM (Rect.unit (s := S32x264x256) ![0, 128, 0] S1x128x256.size inb_S32x264x256_S1x128x256_0_128_0) (k0_pay6 w1) Finset.univ (View.stores_vmem_bits_univ h_S1x128x256 rfl) (.inl rfl))
  let _ : Vec F S1x8x256 .f32 ← Prog.lift (.load sM (Rect.unit (s := S32x264x256) ![0, 256, 0] S1x8x256.size inb_S32x264x256_S1x8x256_0_256_0).toLoadRect (View.loadsAt_vmem h_S1x8x256))
  Prog.lift (.store sM (Rect.unit (s := S32x264x256) ![0, 256, 0] S1x8x256.size inb_S32x264x256_S1x8x256_0_256_0) (k0_pay7 (F := F)) Finset.univ (View.stores_vmem_bits_univ h_S1x8x256 rfl) (.inl rfl))
  let _ : Vec F S1x1x64 .f32 ← Prog.lift (.load sM (Rect.unit (s := S32x264x256) ![0, 256, 0] S1x1x64.size inb_S32x264x256_S1x1x64_0_256_0).toLoadRect (View.loadsAt_vmem h_S1x1x64))
  Prog.lift (.store sM (Rect.unit (s := S32x264x256) ![0, 256, 0] S1x1x64.size inb_S32x264x256_S1x1x64_0_256_0) (k0_pay8 (k0_pay4 r)) Finset.univ (View.stores_vmem_bits_univ h_S1x1x64 rfl) (.inl rfl))
  pure ⟨k0_pay2 x, k0_pay3 r, k0_pay4 r, k0_pay9 (k0_pay4 r)⟩

/-- Hop 0: slot 0 goes both ways, and is worked in meanwhile. -/
def hop0 (d : Dev nD) (L : Loaded F) : Body F (Acc F) := do
  copyRight d 0 (by decide)
  copyLeft d 0 0 (by decide) (by decide)
  let g ← loadSlot 0 (by decide)
  waitOn (rRecv 0 (by decide)) 0 1 (by decide) (by decide)
  waitOn (rSend 0 (by decide)) 1 0 (by decide) (by decide)
  waitOn (lRecv 0 (by decide)) 0 31 (by decide) (by decide)
  waitOn (lSend 0 (by decide)) 31 0 (by decide) (by decide)
  pure (step0 (me d) L.x L.r g)

/-- Hop `h`, `1 ≤ h ≤ 14`: slot `h` goes right, slot `32 - h` goes left, and both are worked in meanwhile. -/
def hop (d : Dev nD) (L : Loaded F) (h : ℕ) (h1 : 1 ≤ h) (hh : h < 15) (a : Acc F) : Body F (Acc F) := do
  copyRight d h (by omega)
  copyLeft d h (32 - h) hh (by omega)
  let g ← loadSlot h (by omega)
  let g' ← loadSlot (32 - h) (by omega)
  waitOn (rRecv h (by omega)) h (h + 1) (by omega) (by omega)
  waitOn (rSend h (by omega)) (h + 1) h (by omega) (by omega)
  waitOn (lRecv h hh) (32 - h) (31 - h) (by omega) (by omega)
  waitOn (lSend h hh) (31 - h) (32 - h) (by omega) (by omega)
  pure (step (me d) L.x L.r L.q (32 - h) g' (step (me d) L.x L.r L.q h g a))

/-- The first `n + 1` hops. -/
def hops (d : Dev nD) (L : Loaded F) : (n : ℕ) → n < 15 → Body F (Acc F)
  | 0, _ => hop0 d L
  | n + 1, hn => do
    let a ← hops d L n (by omega)
    hop d L (n + 1) (by omega) hn a

/-- The last hop: slot 15 goes right alone, slots 15 and 17 are worked in, then slot 16, which has come. -/
def lastHop (d : Dev nD) (L : Loaded F) (a : Acc F) : Body F (Acc F) := do
  copyRight d 15 (by decide)
  let g ← loadSlot 15 (by decide)
  let g' ← loadSlot 17 (by decide)
  waitOn (rRecv 15 (by decide)) 15 16 (by decide) (by decide)
  waitOn (rSend 15 (by decide)) 16 15 (by decide) (by decide)
  let g'' ← loadSlot 16 (by decide)
  pure (step (me d) L.x L.r L.q 16 g'' (step (me d) L.x L.r L.q 17 g' (step (me d) L.x L.r L.q 15 g a)))

/-- The result stored: the product where the count stays below the capacity. -/
def finish (L : Loaded F) (a : Acc F) : Body F PUnit := do
  let _ : Vec F S256x256 .f32 ← Prog.lift (.load oM (Rect.unit (s := S256x256) ![0, 0] S256x256.size inb_S256x256_S256x256_0_0).toLoadRect (View.loadsAt_vmem h_S256x256))
  Prog.lift (.store oM (Rect.unit (s := S256x256) ![0, 0] S256x256.size inb_S256x256_S256x256_0_0)
    (result L.p a) Finset.univ (View.stores_vmem_bits_univ h_S256x256 rfl) (.inl rfl))

/-- The whole body. -/
def body : Body F PUnit := do
  let d ← Prog.lift .deviceId
  barrier d
  let L ← fill
  let a ← hops d L 14 (by decide)
  let a ← lastHop d L a
  finish L a

end Cert.Moe

end
-- ==== Proof.Slots.lean ====
/-
# The scratch: its slots and what they finally hold

The scratch of a device has thirty-two slots. Slot `j` of device `c` comes to hold the chunk of device
`c - j` (around the ring): that device's two experts, then the counts of its tokens by expert. `final m c`
is the whole scratch at its final contents. A copy of slot `j` of device `c` onto slot `j + 1` of the device
on the right, or of slot `j + 1` onto slot `j` of the one on the left, carries final contents to final ones.
-/
module

public import proofs.«01_k».proof.Proof.Program
public import proofs.«01_k».proof.Proof.Gen.KernelIdeal.Frame
public import Idealize.ShloMosaic.Lib.Tactic
public import Idealize.ShloMosaic.Lib.ValueIdxCore

@[expose] public section

noncomputable section

namespace Cert.Moe

open Cert.KernelIdeal Cert.KernelIdeal.Gen
open Idealize.ShloMosaic Idealize.ShloMosaic.TcCoe Idealize.SL.Sem
open Idealize.ShloMosaic.ValueIdx (ix3)

variable {F : FTy → Type} [FloatOps F]

/-! ## The ring -/

/-- The device `j` places to the left of `c`. -/
def origin (c : Dev nD) (j : ℕ) : Dev nD := ⟨(c.val + 32 - j % 32) % 32, Nat.mod_lt _ (by decide)⟩

/-- The neighbours. -/
def onRight (c : Dev nD) : Dev nD := ⟨(c.val + 1) % 32, Nat.mod_lt _ (by decide)⟩
def onLeft (c : Dev nD) : Dev nD := ⟨(c.val + 31) % 32, Nat.mod_lt _ (by decide)⟩

theorem left_right (c : Dev nD) : onLeft (onRight c) = c := by revert c; decide
theorem right_left (c : Dev nD) : onRight (onLeft c) = c := by revert c; decide

/-- The ring as a permutation. -/
def ring : Dev nD ≃ Dev nD := ⟨onRight, onLeft, left_right, right_left⟩

/-- The devices that the kernel computes: the first signal goes left, the second right, copies right and left. -/
theorem dev1_eq (c : Dev nD) : (⟨k0_dev1 c, k0_dev1_lt c⟩ : Dev nD) = onLeft c := by revert c; decide
theorem dev2_eq (c : Dev nD) : (⟨k0_dev2 c, k0_dev2_lt c⟩ : Dev nD) = onRight c := by revert c; decide
theorem right'_eq (c : Dev nD) : right' c = onRight c := by revert c; decide
theorem left'_eq (c : Dev nD) : left' c = onLeft c := by revert c; decide

/-- Slot `j + 1` of the right neighbour and slot `j` of the device come from one device. -/
theorem origin_right (c : Dev nD) {j : ℕ} (hj : j < 31) : origin (onRight c) (j + 1) = origin c j := by
  apply Fin.ext
  have := c.isLt
  simp only [origin, onRight, nD] at *
  omega

/-- Slot `31 - h` of the left neighbour and the slot it is copied from come from one device. -/
theorem origin_left (c : Dev nD) {h : ℕ} (hh : h < 15) : origin (onLeft c) (31 - h) = origin c ((32 - h) % 32) := by
  apply Fin.ext
  have := c.isLt
  simp only [origin, onLeft, nD] at *
  omega

theorem origin_zero (c : Dev nD) : origin c 0 = c := by
  apply Fin.ext
  have := c.isLt
  simp only [origin, nD] at *
  omega

/-! ## The operands as the body loads them -/

section Contents

variable (m : (ℓ : Loc nD τ sig) → Buf (Elt F) ℓ)

/-- The tokens, the routed experts and the two experts of device `c`. -/
def xIn (c : Dev nD) : Vec F S256x128 .f32 := m ((c : Thread nD τ).loc main_arg0)
def rIn (c : Dev nD) : Vec F S256x1 .i32 := m ((c : Thread nD τ).loc main_arg2)
def wIn (c : Dev nD) : Vec F S2x128x256 .f32 := m ((c : Thread nD τ).loc main_arg3)

/-- One expert of the two, as a load reads it. -/
def w0In (c : Dev nD) : Vec F S1x128x256 .f32 :=
  fun x => wIn m c ((Rect.unit (s := S2x128x256) ![0, 0, 0] S1x128x256.size inb_S2x128x256_S1x128x256_0_0_0).emb x)
def w1In (c : Dev nD) : Vec F S1x128x256 .f32 :=
  fun x => wIn m c ((Rect.unit (s := S2x128x256) ![1, 0, 0] S1x128x256.size inb_S2x128x256_S1x128x256_1_0_0).emb x)

/-- What the prologue leaves. -/
def loaded (c : Dev nD) : Loaded F :=
  ⟨k0_pay2 (xIn m c), k0_pay3 (rIn m c), k0_pay4 (rIn m c), k0_pay9 (k0_pay4 (rIn m c))⟩

/-! ## The chunk of a device -/

/-- Entry `(r, k)` of the chunk made of two experts and a one-hot matrix: the first expert, the second, the counts. -/
def chunkAt (w0 w1 : Vec F S1x128x256 .f32) (q : FVec F S256x64 .f32) (r : Fin 264) (k : Fin 256) : F .f32 :=
  if h0 : r.val < 128 then k0_pay5 w0 (ix3 0 ⟨r.val, h0⟩ k : S1x128x256.Idx)
  else if h1 : r.val < 256 then k0_pay6 w1 (ix3 0 ⟨r.val - 128, by omega⟩ k : S1x128x256.Idx)
  else if h2 : r.val = 256 ∧ k.val < 64 then k0_pay8 q (ix3 0 0 ⟨k.val, h2.2⟩ : S1x1x64.Idx)
  else k0_pay7 (F := F) (ix3 0 ⟨r.val - 256, by have := r.isLt; omega⟩ k : S1x8x256.Idx)

/-- The scratch of device `c`, all its slots come. -/
def final (c : Dev nD) : Buf (Elt F) ((c : Thread nD τ).loc cc0_scratch0) := fun i : S32x264x256.Idx =>
  chunkAt (w0In m (origin c (i 0).val)) (w1In m (origin c (i 0).val)) (k0_pay4 (rIn m (origin c (i 0).val))) (i 1) (i 2)

end Contents

/-! ## The slots as sets of elements -/

/-- The elements of slot `j`. -/
def slotSet (j : ℕ) : Finset S32x264x256.Idx := Finset.univ.filter fun i => (i 0).val = j

/-- The slots that the device's own chunk and the first `n` hops have filled. -/
def held (n : ℕ) : Finset S32x264x256.Idx := Finset.univ.filter fun i => (i 0).val ≤ n ∨ 32 ≤ (i 0).val + n

/-- The slots that the copies from hop `n` on fill from the left, and from the right. -/
def zoneR (n : ℕ) : Finset S32x264x256.Idx := Finset.univ.filter fun i => n < (i 0).val ∧ (i 0).val ≤ 16
def zoneL (n : ℕ) : Finset S32x264x256.Idx := Finset.univ.filter fun i => 16 < (i 0).val ∧ (i 0).val + n < 32

theorem mem_slotSet {j : ℕ} {i : S32x264x256.Idx} : i ∈ slotSet j ↔ (i 0).val = j := by simp [slotSet]
theorem mem_held {n : ℕ} {i : S32x264x256.Idx} : i ∈ held n ↔ (i 0).val ≤ n ∨ 32 ≤ (i 0).val + n := by simp [held]
theorem mem_zoneR {n : ℕ} {i : S32x264x256.Idx} : i ∈ zoneR n ↔ n < (i 0).val ∧ (i 0).val ≤ 16 := by simp [zoneR]
theorem mem_zoneL {n : ℕ} {i : S32x264x256.Idx} : i ∈ zoneL n ↔ 16 < (i 0).val ∧ (i 0).val + n < 32 := by simp [zoneL]

/-- A slot's buffer holds the slot's elements. -/
theorem slotM_set (j : ℕ) (hj : j < 32) : (slotM j hj).view.set = slotSet j := by
  refine (Memref.set_view_squeeze _ _).trans ((View.set_slice_whole cc0_scratch0 (slotR j hj)).trans ?_)
  ext i
  rw [Rect.mem_set_unit, mem_slotSet]
  constructor
  · intro h
    have h0 : j ≤ (i 0).val ∧ (i 0).val < j + 1 := h 0
    omega
  · intro h a
    match a with
    | 0 => exact ⟨h.ge, by show (i 0).val < j + 1; omega⟩
    | 1 => exact ⟨Nat.zero_le _, by have : (i 1).val < 264 := (i 1).isLt; show (i 1).val < 0 + 264; omega⟩
    | 2 => exact ⟨Nat.zero_le _, by have : (i 2).val < 256 := (i 2).isLt; show (i 2).val < 0 + 256; omega⟩

/-- A slot read through the whole scratch touches the slot's elements. -/
theorem slotR_set (j : ℕ) (hj : j < 32) : (slotR j hj).set = slotSet j :=
  (View.set_slice_whole cc0_scratch0 (slotR j hj)).symm.trans ((Memref.set_view_squeeze _ _).symm.trans (slotM_set j hj))

/-- Where a slot's buffer puts an element: in that slot, at a row and a column that don't depend on the slot. -/
theorem slotM_emb (y : S264x256.Idx) : ∃ x : S1x264x256.Idx,
    ∀ k (hk : k < 32), ((slotM k hk).view.emb y : S32x264x256.Idx) = (slotR k hk).emb x :=
  ⟨Shape.reshapeEquiv squeezes_S1x264x256_S264x256.numel_eq y, fun _ _ => rfl⟩

theorem slotR_emb0 (j : ℕ) (hj : j < 32) (x : S1x264x256.Idx) : ((slotR j hj).emb x 0).val = j := by
  have h : (x 0).val < 1 := (x 0).isLt
  show j + 1 * (x 0).val = j
  omega
theorem slotR_emb1 (j : ℕ) (hj : j < 32) (x : S1x264x256.Idx) : (slotR j hj).emb x 1 = x 1 := by
  apply Fin.ext; show 0 + 1 * (x 1).val = (x 1).val; omega
theorem slotR_emb2 (j : ℕ) (hj : j < 32) (x : S1x264x256.Idx) : (slotR j hj).emb x 2 = x 2 := by
  apply Fin.ext; show 0 + 1 * (x 2).val = (x 2).val; omega

/-! ## Contents over the slots -/

section Land

variable (m : (ℓ : Loc nD τ sig) → Buf (Elt F) ℓ)

/-- Two scratches agree on the two slots that hold one device's chunk. -/
theorem final_slot (c c' : Dev nD) (j k : ℕ) (hj : j < 32) (hk : k < 32) (ho : origin c' k = origin c j) (x : S1x264x256.Idx) :
    final m c' ((slotR k hk).emb x) = final m c ((slotR j hj).emb x) := by
  unfold final
  rw [slotR_emb0, slotR_emb0, slotR_emb1, slotR_emb1, slotR_emb2, slotR_emb2, ho]

/-- **What a copy lands is final**: slot `j` of device `c` written over slot `k` of device `c'`, the two of one device. -/
theorem land (c c' : Dev nD) (j k : ℕ) (hj : j < 32) (hk : k < 32) (ho : origin c' k = origin c j)
    (fd : Buf (Elt F) ((c' : Thread nD τ).loc cc0_scratch0)) (i : S32x264x256.Idx) (hi : i ∈ slotSet k) :
    (slotM k hk).view.write (Elt F) fd ((slotM j hj).view.read (Elt F) (final m c)) Finset.univ i = final m c' i := by
  rw [← slotM_set k hk] at hi
  obtain ⟨y, -, rfl⟩ := Finset.mem_map.mp hi
  obtain ⟨x, hx⟩ := slotM_emb y
  refine (View.write_emb_of_mem (v := (slotM k hk).view) (Val := Elt F) fd _ (Finset.mem_univ y)).trans ?_
  refine (congrArg (final m c) (hx j hj)).trans ((final_slot m c c' j k hj hk ho x).symm.trans (congrArg (final m c') (hx k hk)).symm)

/-- The stores of the prologue, the newest first. -/
def fills (c : Dev nD) : List (View.Piece (Elt F) S32x264x256 .f32) :=
  [⟨Rect.unit (s := S32x264x256) ![0, 256, 0] S1x1x64.size inb_S32x264x256_S1x1x64_0_256_0, k0_pay8 (k0_pay4 (rIn m c))⟩,
   ⟨Rect.unit (s := S32x264x256) ![0, 256, 0] S1x8x256.size inb_S32x264x256_S1x8x256_0_256_0, k0_pay7 (F := F)⟩,
   ⟨Rect.unit (s := S32x264x256) ![0, 128, 0] S1x128x256.size inb_S32x264x256_S1x128x256_0_128_0, k0_pay6 (w1In m c)⟩,
   ⟨Rect.unit (s := S32x264x256) ![0, 0, 0] S1x128x256.size inb_S32x264x256_S1x128x256_0_0_0, k0_pay5 (w0In m c)⟩]

/-- A place outside the newest store keeps what it had. -/
theorem store_miss (f : sM.view.ty.Contents (Elt F)) (off size : Fin 3 → ℕ) (inb : ∀ a, off a + size a ≤ S32x264x256.size a)
    (w : (Rect.unit (s := S32x264x256) off size inb).shape.Idx → Elt F .f32) (L : List (View.Piece (Elt F) S32x264x256 .f32))
    (i : S32x264x256.Idx) (a : Fin 3) (h : (i a).val < off a ∨ off a + size a ≤ (i a).val) :
    sM.view.read (Elt F) (sM.view.writes (Elt F) f (⟨Rect.unit (s := S32x264x256) off size inb, w⟩ :: L)) i
      = sM.view.read (Elt F) (sM.view.writes (Elt F) f L) i :=
  View.read_writes_cons_miss_of_axis sM.view f ⟨_, w⟩ L i a _ _ rfl rfl rfl h

/-- A place inside the newest store holds what was stored. -/
theorem store_hit (f : sM.view.ty.Contents (Elt F)) (off size : Fin 3 → ℕ) (inb : ∀ a, off a + size a ≤ S32x264x256.size a)
    (w : (Rect.unit (s := S32x264x256) off size inb).shape.Idx → Elt F .f32) (L : List (View.Piece (Elt F) S32x264x256 .f32))
    (i : S32x264x256.Idx) (x : (Rect.unit (s := S32x264x256) off size inb).shape.Idx) (h : ∀ a, (i a).val = off a + 1 * (x a).val) :
    sM.view.read (Elt F) (sM.view.writes (Elt F) f (⟨Rect.unit (s := S32x264x256) off size inb, w⟩ :: L)) i = w x :=
  View.read_writes_cons_hit_of_coords sM.view f _ w L x i h

/-- They leave slot 0 final, whatever is stored. -/
theorem stores_at (w0 w1 : Vec F S1x128x256 .f32) (z : Vec F S1x8x256 .f32) (q : Vec F S1x1x64 .f32) (f : sM.view.ty.Contents (Elt F))
    (i : S32x264x256.Idx) (h0 : (i 0).val = 0) (h1 : (i 1).val < 264) (hk : (i 2).val < 256) :
    sM.view.read (Elt F) (sM.view.writes (Elt F) f
      [⟨Rect.unit (s := S32x264x256) ![0, 256, 0] S1x1x64.size inb_S32x264x256_S1x1x64_0_256_0, q⟩,
       ⟨Rect.unit (s := S32x264x256) ![0, 256, 0] S1x8x256.size inb_S32x264x256_S1x8x256_0_256_0, z⟩,
       ⟨Rect.unit (s := S32x264x256) ![0, 128, 0] S1x128x256.size inb_S32x264x256_S1x128x256_0_128_0, w1⟩,
       ⟨Rect.unit (s := S32x264x256) ![0, 0, 0] S1x128x256.size inb_S32x264x256_S1x128x256_0_0_0, w0⟩]) i
      = if h0 : (i 1).val < 128 then w0 (ix3 0 ⟨(i 1).val, h0⟩ ⟨(i 2).val, hk⟩ : S1x128x256.Idx)
        else if h1 : (i 1).val < 256 then w1 (ix3 0 ⟨(i 1).val - 128, by omega⟩ ⟨(i 2).val, hk⟩ : S1x128x256.Idx)
        else if h2 : (i 1).val = 256 ∧ (i 2).val < 64 then q (ix3 0 0 ⟨(i 2).val, h2.2⟩ : S1x1x64.Idx)
        else z (ix3 0 ⟨(i 1).val - 256, by omega⟩ ⟨(i 2).val, hk⟩ : S1x8x256.Idx) := by
  have e128 : S1x128x256.size 1 = 128 := rfl
  have e8 : S1x8x256.size 1 = 8 := rfl
  have e1 : S1x1x64.size 1 = 1 := rfl
  have e64 : S1x1x64.size 2 = 64 := rfl
  split_ifs with ha hb hc
  · rw [store_miss _ _ _ _ _ _ _ 1 (Or.inl (by show (i 1).val < 256; omega)),
      store_miss _ _ _ _ _ _ _ 1 (Or.inl (by show (i 1).val < 256; omega)),
      store_miss _ _ _ _ _ _ _ 1 (Or.inl (by show (i 1).val < 128; omega))]
    refine store_hit _ _ _ _ _ _ _ _ fun a => ?_
    match a with
    | 0 => exact h0
    | 1 => show (i 1).val = 0 + 1 * (i 1).val; omega
    | 2 => show (i 2).val = 0 + 1 * (i 2).val; omega
  · rw [store_miss _ _ _ _ _ _ _ 1 (Or.inl (by show (i 1).val < 256; omega)),
      store_miss _ _ _ _ _ _ _ 1 (Or.inl (by show (i 1).val < 256; omega))]
    refine store_hit _ _ _ _ _ _ _ _ fun a => ?_
    match a with
    | 0 => exact h0
    | 1 => show (i 1).val = 128 + 1 * ((i 1).val - 128); omega
    | 2 => show (i 2).val = 0 + 1 * (i 2).val; omega
  · refine store_hit _ _ _ _ _ _ _ _ fun a => ?_
    match a with
    | 0 => exact h0
    | 1 => exact hc.1
    | 2 => show (i 2).val = 0 + 1 * (i 2).val; omega
  · have hmiss : 257 ≤ (i 1).val ∨ 64 ≤ (i 2).val := by
      by_contra hn
      exact hc ⟨by omega, by omega⟩
    have hz : ∀ Q, sM.view.read (Elt F) (sM.view.writes (Elt F) f
        (⟨Rect.unit (s := S32x264x256) ![0, 256, 0] S1x8x256.size inb_S32x264x256_S1x8x256_0_256_0, z⟩ :: Q)) i
        = z (ix3 0 ⟨(i 1).val - 256, by omega⟩ ⟨(i 2).val, hk⟩ : S1x8x256.Idx) := fun Q =>
      store_hit _ _ _ _ z Q i (ix3 0 ⟨(i 1).val - 256, by omega⟩ ⟨(i 2).val, hk⟩ : S1x8x256.Idx) fun a => by
        match a with
        | 0 => exact h0
        | 1 => show (i 1).val = 256 + 1 * ((i 1).val - 256); omega
        | 2 => show (i 2).val = 0 + 1 * (i 2).val; omega
    rcases hmiss with h | h
    · rw [store_miss _ _ _ _ _ _ _ 1 (Or.inr h)]; exact hz _
    · rw [store_miss _ _ _ _ _ _ _ 2 (Or.inr (by show 0 + 64 ≤ (i 2).val; omega))]; exact hz _

/-- The stores of the prologue leave slot 0 final. -/
theorem fills_final (c : Dev nD) (f : Buf (Elt F) ((c : Thread nD τ).loc cc0_scratch0)) (i : S32x264x256.Idx) (hi : i ∈ slotSet 0) :
    sM.view.writes (Elt F) f (fills m c) i = final m c i := by
  have h0 : (i 0).val = 0 := mem_slotSet.mp hi
  refine (stores_at (k0_pay5 (w0In m c)) (k0_pay6 (w1In m c)) k0_pay7 (k0_pay8 (k0_pay4 (rIn m c))) f i h0 (i 1).isLt (i 2).isLt).trans ?_
  unfold final
  rw [h0, origin_zero]
  rfl

end Land

/-! ## How the sets grow and shrink -/

theorem held_zero : held 0 = slotSet 0 := by
  ext i; have : (i 0).val < 32 := (i 0).isLt; rw [mem_held, mem_slotSet]; omega

/-- The scratch is slot 0 and the two landing zones. -/
theorem zones : (Finset.univ : Finset S32x264x256.Idx) = (slotSet 0 ∪ zoneR 0) ∪ zoneL 0 := by
  ext i; have : (i 0).val < 32 := (i 0).isLt
  simp only [Finset.mem_univ, Finset.mem_union, mem_slotSet, mem_zoneR, mem_zoneL, true_iff]; omega

theorem zones_disj : Disjoint (slotSet 0 ∪ zoneR 0) (zoneL 0) := by
  rw [Finset.disjoint_left]; intro i
  simp only [Finset.mem_union, mem_slotSet, mem_zoneR, mem_zoneL]; omega

theorem zones_disj' : Disjoint (slotSet 0) (zoneR 0) := by
  rw [Finset.disjoint_left]; intro i
  simp only [mem_slotSet, mem_zoneR]; omega

theorem zoneR_step {n : ℕ} (h : n < 16) : zoneR n = slotSet (n + 1) ∪ zoneR (n + 1) := by
  ext i; simp only [Finset.mem_union, mem_slotSet, mem_zoneR]; omega
theorem zoneR_disj (n : ℕ) : Disjoint (slotSet (n + 1)) (zoneR (n + 1)) := by
  rw [Finset.disjoint_left]; intro i; simp only [mem_slotSet, mem_zoneR]; omega
theorem zoneL_step {n : ℕ} (h : n < 15) : zoneL n = slotSet (31 - n) ∪ zoneL (n + 1) := by
  ext i; have : (i 0).val < 32 := (i 0).isLt; simp only [Finset.mem_union, mem_slotSet, mem_zoneL]; omega
theorem zoneL_disj {n : ℕ} (h : n < 15) : Disjoint (slotSet (31 - n)) (zoneL (n + 1)) := by
  rw [Finset.disjoint_left]; intro i; simp only [mem_slotSet, mem_zoneL]; omega

theorem held_step {n : ℕ} (h : n < 15) : held (n + 1) = (held n ∪ slotSet (n + 1)) ∪ slotSet (31 - n) := by
  ext i; have : (i 0).val < 32 := (i 0).isLt; simp only [Finset.mem_union, mem_slotSet, mem_held]; omega
theorem held_disj {n : ℕ} (h : n < 15) : Disjoint (held n ∪ slotSet (n + 1)) (slotSet (31 - n)) := by
  rw [Finset.disjoint_left]; intro i; simp only [Finset.mem_union, mem_slotSet, mem_held]; omega
theorem held_disj' {n : ℕ} (h : n < 16) : Disjoint (held n) (slotSet (n + 1)) := by
  rw [Finset.disjoint_left]; intro i; simp only [mem_slotSet, mem_held]; omega
theorem held_last : (Finset.univ : Finset S32x264x256.Idx) = held 15 ∪ slotSet 16 := by
  ext i; have : (i 0).val < 32 := (i 0).isLt
  simp only [Finset.mem_univ, Finset.mem_union, mem_slotSet, mem_held, true_iff]; omega

theorem slot_held {n j : ℕ} (h : j ≤ n ∨ 32 ≤ j + n) : slotSet j ⊆ held n := by
  intro i hi; rw [mem_slotSet] at hi; rw [mem_held]; omega

end Cert.Moe

end
-- ==== Proof.Protocol.lean ====
/-
# The protocol

Every device `d` has a barrier cell and sixty-two copy cells, each used for one round.

* Barrier cell of `d`: `d` waits for 2. The device on the right signals 1 and hands over its slots 1 to 16,
  where `d`'s rightward copies land; the one on the left signals 1 and hands over its slots 17 to 31, where
  `d`'s leftward copies land.
* Rightward copy of hop `h < 16`, slot `h` of `d` onto slot `h + 1` of the right neighbour. The send cell of `d`
  gives `d` its share of slot `h` back; the receive cell of the neighbour hands it slot `h + 1`, now final.
* Leftward copy of hop `h < 15`, slot `32 - h` (slot 0 when `h = 0`) of `d` onto slot `31 - h` of the left
  neighbour. The send cell of `d` gives the share of the source back; the receive cell of the neighbour hands it
  slot `31 - h`, now final.

In hop `h` a device waits for the receive cells of hop `h` and still owes only the receive cells of later hops, so
the receive cells of hop `h` have level `h + 2`, the barrier cell has level 1, all others level 0.
-/
module

public import proofs.«01_k».proof.Proof.Slots
public import Idealize.ShloMosaic.Lib.Pipeline.Launch
public import Idealize.ShloMosaic.Lib.Pipeline.Kit

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- The copy cells of a device: rightward send and receive by hop, leftward send and receive by hop. -/
abbrev XK : Type := (Fin 16 ⊕ Fin 16) ⊕ (Fin 15 ⊕ Fin 15)

abbrev sR (h : Fin 16) : XK := .inl (.inl h)
abbrev vR (h : Fin 16) : XK := .inl (.inr h)
abbrev sL (h : Fin 15) : XK := .inr (.inl h)
abbrev vL (h : Fin 15) : XK := .inr (.inr h)

/-- Their semaphores. -/
def xsem : XK → DmaSem sig
  | .inl (.inl h) => ⟨4 + h.val, by have := h.isLt; show 4 + h.val < 66; omega⟩
  | .inl (.inr h) => ⟨20 + h.val, by have := h.isLt; show 20 + h.val < 66; omega⟩
  | .inr (.inl h) => ⟨36 + h.val, by have := h.isLt; show 36 + h.val < 66; omega⟩
  | .inr (.inr h) => ⟨51 + h.val, by have := h.isLt; show 51 + h.val < 66; omega⟩

theorem xsem_injective : Function.Injective xsem := by
  rintro ((a | a) | (a | a)) ((b | b) | (b | b)) h <;>
    (have h' := congrArg Fin.val h
     have ha := a.isLt
     have hb := b.isLt
     simp only [xsem] at h'
     first
       | (exfalso; omega)
       | (have e : a = b := Fin.ext (by omega); rw [e]))

/-- No copy uses a semaphore of the staging transfers. -/
theorem four_le_xsem (k : XK) : 4 ≤ (xsem k).val := by
  rcases k with (a | a) | (a | a) <;> simp only [xsem] <;> omega

/-- The copy cell that a semaphore is, if any. -/
def kindOf (q : DmaSem sig) : Option XK := Function.partialInv xsem q

theorem kindOf_xsem (k : XK) : kindOf (xsem k) = some k := Function.partialInv_left xsem_injective k

theorem kindOf_low (q : DmaSem sig) (hq : q.val < 4) : kindOf q = none := by
  unfold kindOf Function.partialInv
  refine dif_neg ?_
  rintro ⟨k, rfl⟩
  have := four_le_xsem k
  omega

/-- The kernel's slices name them. -/
theorem rSend_eq (h : Fin 16) : rSend h.val h.isLt = xsem (sR h) := by fin_cases h <;> rfl
theorem rRecv_eq (h : Fin 16) : rRecv h.val h.isLt = xsem (vR h) := by fin_cases h <;> rfl
theorem lSend_eq (h : Fin 15) : lSend h.val h.isLt = xsem (sL h) := by fin_cases h <;> rfl
theorem lRecv_eq (h : Fin 15) : lRecv h.val h.isLt = xsem (vL h) := by fin_cases h <;> rfl

abbrev bcell (c : Dev nD) : GSem nD τ sig := ((c : Thread nD τ), .reg barSem)
abbrev xcell (c : Dev nD) (k : XK) : GSem nD τ sig := ((c : Thread nD τ), .dma (xsem k))

/-- All cells of a device: the barrier cell and the copy cells. -/
abbrev CK : Type := Unit ⊕ XK
abbrev ksem : CK → SemLoc sig
  | .inl _ => .reg barSem
  | .inr k => .dma (xsem k)
abbrev kcell (ck : Dev nD × CK) : GSem nD τ sig := ((ck.1 : Thread nD τ), ksem ck.2)

theorem ksem_injective : Function.Injective ksem := by
  rintro (a | a) (b | b) h
  · rfl
  · cases h
  · cases h
  · exact congrArg Sum.inr (xsem_injective (SemLoc.dma.inj h))

/-! ## What changes hands -/

/-- The bytes of a slot, as the semaphores count them. -/
abbrev N : ℕ := (slotM 0 (by decide)).view.dmaCredit
theorem N_pos : 0 < N := View.dmaCredit_pos _ (by decide)
theorem credit_eq (j : ℕ) (hj : j < 32) : (slotM j hj).view.dmaCredit = N := rfl

abbrev sLoc (c : Dev nD) : Loc nD τ sig := (c : Thread nD τ).loc cc0_scratch0

/-- A part `S` of the scratch of device `c` at share `q`, final. -/
def fin (c : Dev nD) (S : Finset S32x264x256.Idx) (q : PosShare TreeShare) : sProp 𝕄 :=
  sLoc c ↦[S]{q} final m c
/-- A part `S` of the scratch of device `c`, whatever it holds. -/
def any (c : Dev nD) (S : Finset S32x264x256.Idx) : sProp 𝕄 :=
  iprop(∃ f : Buf (Elt F) (sLoc c), sLoc c ↦[S]{fullShare} f)

instance fin_storable (c : Dev nD) (S) (q) : BI.Storable (upEmb : UEmb _ 𝕄) (fin m c S q) := by unfold fin; infer_instance
instance any_storable (c : Dev nD) (S) : BI.Storable (upEmb : UEmb _ 𝕄) (any (F := F) c S) := by unfold any; infer_instance

/-- The shares: of the rightward copy's source, of the leftward copy's, and what the loads keep. -/
abbrev qR : PosShare TreeShare := fullShare.left.left
abbrev qL : PosShare TreeShare := fullShare.left.right
abbrev qK : PosShare TreeShare := fullShare.right

/-- The slot that the leftward copy of hop `h` reads. -/
def src (h : ℕ) : ℕ := (32 - h) % 32

/-- What a copy cell of device `d` hands to `d`. -/
def pay (d : Dev nD) : XK → sProp 𝕄
  | .inl (.inl h) => fin m d (slotSet h.val) qR
  | .inl (.inr h) => fin m d (slotSet (h.val + 1)) fullShare
  | .inr (.inl h) => fin m d (slotSet (src h.val)) qL
  | .inr (.inr h) => fin m d (slotSet (31 - h.val)) fullShare

instance pay_storable (d : Dev nD) (k : XK) : BI.Storable (upEmb : UEmb _ 𝕄) (pay m d k) := by
  rcases k with (h | h) | (h | h) <;> (unfold pay; infer_instance)

/-- The schedule: the barrier cell's two duties are named by `true` (from the right) and `false` (from the left). -/
def sched : Rounds.Schedule (GSem nD τ sig) Bool 𝕄 where
  duties g r := if r = 0 ∧ g.1.2 = .tc then
      (match g.2 with
        | .reg s => if s = barSem then Finset.univ else ∅
        | .dma q => if (kindOf q).isSome then {false} else ∅)
    else ∅
  unitless _ := False
  amount g _ _ := match g.2 with
    | .reg _ => 1
    | .dma _ => N
  payload g _ d := match g.2 with
    | .reg _ => if d then any (onRight g.1.1) (zoneR 0) else any (onLeft g.1.1) (zoneL 0)
    | .dma q => match kindOf q with
      | some k => pay m g.1.1 k
      | none => iprop(emp)
  amount_pos g _ _ _ := by
    cases g.2 with
    | reg _ => exact Nat.one_pos
    | dma _ => exact N_pos

instance sched_storable (g : GSem nD τ sig) (r : ℕ) (d : Bool) : BI.Storable (upEmb : UEmb _ 𝕄) ((sched m).payload g r d) := by
  dsimp only [sched]
  cases g.2 with
  | reg _ => dsimp only; split <;> infer_instance
  | dma q => dsimp only; cases kindOf q <;> (dsimp only; infer_instance)

section Tables

variable (c : Dev nD) (k : XK)

theorem duties_bar : (sched m).duties (bcell c) 0 = Finset.univ := by
  dsimp only [sched]; rw [if_pos ⟨rfl, rfl⟩]; exact if_pos rfl
theorem duties_x : (sched m).duties (xcell c k) 0 = {false} := by
  dsimp only [sched]; rw [if_pos ⟨rfl, rfl⟩, kindOf_xsem]; rfl
theorem duties_later (g : GSem nD τ sig) (r : ℕ) (hr : 1 ≤ r) : (sched m).duties g r = ∅ := by
  dsimp only [sched]; exact if_neg fun h => by omega
theorem amount_bar (d : Bool) : (sched m).amount (bcell c) 0 d = 1 := rfl
theorem amount_x (d : Bool) : (sched m).amount (xcell c k) 0 d = N := rfl
theorem expect_bar : (sched m).expect (bcell c) 0 = 2 := by
  unfold Schedule.expect Schedule.amountOf
  rw [duties_bar, Finset.sum_congr rfl fun d _ => amount_bar m c d, Finset.sum_const, Finset.card_univ, Fintype.card_bool, smul_eq_mul]
theorem expect_x : (sched m).expect (xcell c k) 0 = N := by
  unfold Schedule.expect Schedule.amountOf; rw [duties_x, Finset.sum_singleton, amount_x]
theorem payload_bar_true : (sched m).payload (bcell c) 0 true = any (onRight c) (zoneR 0) := rfl
theorem payload_bar_false : (sched m).payload (bcell c) 0 false = any (onLeft c) (zoneL 0) := rfl
theorem payload_x (d : Bool) : (sched m).payload (xcell c k) 0 d = pay m c k := by
  dsimp only [sched]; rw [kindOf_xsem]
/-- What the barrier cell hands over at once. -/
theorem rest_bar : bigSep ((sched m).duties (bcell c) 0 \ ∅) (fun d => (sched m).payload (bcell c) 0 d)
    = iprop(any (onLeft c) (zoneL 0) ∗ any (onRight c) (zoneR 0)) := by
  rw [Finset.sdiff_empty, duties_bar, bigSep_univ_eq_bigSepL [false, true] (by decide) (by decide), bigSepL_cons_cons, bigSepL_singleton]
  rfl
/-- What a copy cell hands over. -/
theorem rest_x : bigSep ((sched m).duties (xcell c k) 0 \ ∅) (fun d => (sched m).payload (xcell c k) 0 d) = pay m c k := by
  rw [Finset.sdiff_empty, duties_x, bigSep_singleton, payload_x]

end Tables

/-! ## Levels and debts -/

def L (g : GSem nD τ sig) : Finset Unit := if g.1.2 = .tc then {()} else ∅

/-- The level of a copy cell. -/
def xlev : XK → ℕ
  | .inl (.inr h) => h.val + 2
  | .inr (.inr h) => h.val + 2
  | _ => 0

def lv (g : GSem nD τ sig) (_ : Unit) : ℕ := match g.2 with
  | .reg _ => 1
  | .dma q => match kindOf q with
    | some k => xlev k
    | none => 0

theorem L_of_ne (g : GSem nD τ sig) (h : g.1.2 ≠ .tc) : L g = ∅ := if_neg h
theorem L_tc (g : GSem nD τ sig) (h : g.1.2 = .tc) : L g = {()} := if_pos h
theorem lv_bar (c : Dev nD) : lv (bcell c) () = 1 := rfl
theorem lv_x (c : Dev nD) (k : XK) : lv (xcell c k) () = xlev k := by dsimp only [lv]; rw [kindOf_xsem]

/-- What `c` owes the receive cells on its right, and on its left, from hop `n` on. -/
def owedR (c : Dev nD) (n : ℕ) : CellTallies nD τ sig Unit :=
  ∑ h ∈ Finset.univ.filter (fun h : Fin 16 => n ≤ h.val), tallyAt (xcell (onRight c) (vR h)) () N
def owedL (c : Dev nD) (n : ℕ) : CellTallies nD τ sig Unit :=
  ∑ h ∈ Finset.univ.filter (fun h : Fin 15 => n ≤ h.val), tallyAt (xcell (onLeft c) (vL h)) () N

/-- All it owes from hop `n` on, and at launch. -/
def owed (c : Dev nD) (n : ℕ) : CellTallies nD τ sig Unit := owedL c n + owedR c n
def O₁ (c : Dev nD) : CellTallies nD τ sig Unit := owed c 0 + tallyAt (bcell (onRight c)) () 1
def O₀ (c : Dev nD) : CellTallies nD τ sig Unit := O₁ c + tallyAt (bcell (onLeft c)) () 1

/-- The hops from `n` on are hop `n` and those from `n + 1` on. -/
theorem from_step {k : ℕ} (n : ℕ) (hn : n < k) : Finset.univ.filter (fun h : Fin k => n ≤ h.val)
    = insert ⟨n, hn⟩ (Finset.univ.filter (fun h : Fin k => n + 1 ≤ h.val)) := by
  ext h
  simp only [Finset.mem_filter, Finset.mem_univ, true_and, Finset.mem_insert, Fin.ext_iff]
  omega
theorem from_not_mem {k : ℕ} (n : ℕ) (hn : n < k) : (⟨n, hn⟩ : Fin k) ∉ Finset.univ.filter (fun h : Fin k => n + 1 ≤ h.val) := by
  simp
/-- The hops before `n + 1` are hop `n` and those before `n`. -/
theorem before_step {k : ℕ} (n : ℕ) (hn : n < k) : Finset.univ.filter (fun h : Fin k => h.val < n + 1)
    = insert ⟨n, hn⟩ (Finset.univ.filter (fun h : Fin k => h.val < n)) := by
  ext h
  simp only [Finset.mem_filter, Finset.mem_univ, true_and, Finset.mem_insert, Fin.ext_iff]
  omega
theorem before_not_mem {k : ℕ} (n : ℕ) (hn : n < k) : (⟨n, hn⟩ : Fin k) ∉ Finset.univ.filter (fun h : Fin k => h.val < n) := by
  simp
theorem from_all {k : ℕ} : Finset.univ.filter (fun h : Fin k => 0 ≤ h.val) = Finset.univ := by ext; simp
theorem from_none {k : ℕ} : Finset.univ.filter (fun h : Fin k => k ≤ h.val) = ∅ := by
  ext h; have := h.isLt; simp
theorem before_all {k : ℕ} : Finset.univ.filter (fun h : Fin k => h.val < k) = Finset.univ := by ext h; simp
theorem before_none {k : ℕ} : Finset.univ.filter (fun h : Fin k => h.val < 0) = ∅ := by ext; simp

theorem owedR_step (c : Dev nD) (n : ℕ) (hn : n < 16) : owedR c n = owedR c (n + 1) + tallyAt (xcell (onRight c) (vR ⟨n, hn⟩)) () N := by
  unfold owedR; rw [from_step n hn, Finset.sum_insert (from_not_mem n hn), add_comm]
theorem owedL_step (c : Dev nD) (n : ℕ) (hn : n < 15) : owedL c n = owedL c (n + 1) + tallyAt (xcell (onLeft c) (vL ⟨n, hn⟩)) () N := by
  unfold owedL; rw [from_step n hn, Finset.sum_insert (from_not_mem n hn), add_comm]
theorem owedR_end (c : Dev nD) : owedR c 16 = 0 := by unfold owedR; rw [from_none, Finset.sum_empty]
theorem owedL_end (c : Dev nD) : owedL c 15 = 0 := by unfold owedL; rw [from_none, Finset.sum_empty]

/-- Whom `c` owes from hop `n` on: receive cells of hop `n` and later. -/
theorem owedR_pos {c : Dev nD} {n : ℕ} {g : GSem nD τ sig} (h : 0 < owedR c n g ()) : ∃ i : Fin 16, n ≤ i.val ∧ g = xcell (onRight c) (vR i) := by
  unfold owedR at h
  rw [Finset.sum_apply, Finsupp.finset_sum_apply] at h
  obtain ⟨i, hi, hne⟩ := Finset.exists_ne_zero_of_sum_ne_zero h.ne'
  refine ⟨i, (Finset.mem_filter.mp hi).2, ?_⟩
  rw [tallyAt_apply] at hne
  by_contra hg
  exact hne (if_neg fun h' => hg h'.1)
theorem owedL_pos {c : Dev nD} {n : ℕ} {g : GSem nD τ sig} (h : 0 < owedL c n g ()) : ∃ i : Fin 15, n ≤ i.val ∧ g = xcell (onLeft c) (vL i) := by
  unfold owedL at h
  rw [Finset.sum_apply, Finsupp.finset_sum_apply] at h
  obtain ⟨i, hi, hne⟩ := Finset.exists_ne_zero_of_sum_ne_zero h.ne'
  refine ⟨i, (Finset.mem_filter.mp hi).2, ?_⟩
  rw [tallyAt_apply] at hne
  by_contra hg
  exact hne (if_neg fun h' => hg h'.1)

/-- Their levels are `n + 2` at least. -/
theorem owed_lev {c : Dev nD} {n : ℕ} {g : GSem nD τ sig} (h : 0 < owed c n g ()) : g.1.2 = .tc ∧ n + 1 < lv g () := by
  unfold owed at h
  rw [Pi.add_apply, Finsupp.add_apply] at h
  rcases Nat.eq_zero_or_pos (owedR c n g ()) with h0 | h0
  · obtain ⟨i, hi, rfl⟩ := owedL_pos (c := c) (n := n) (g := g) (by omega)
    refine ⟨rfl, ?_⟩
    rw [lv_x]; simp only [xlev]; omega
  · obtain ⟨i, hi, rfl⟩ := owedR_pos h0
    refine ⟨rfl, ?_⟩
    rw [lv_x]; simp only [xlev]; omega

/-- At launch everything owed is above level 0. -/
theorem O₀_lev {c : Dev nD} {g : GSem nD τ sig} (h : 0 < O₀ c g ()) : g.1.2 = .tc ∧ 0 < lv g () := by
  unfold O₀ O₁ at h
  rw [Pi.add_apply, Finsupp.add_apply, Pi.add_apply, Finsupp.add_apply, tallyAt_apply, tallyAt_apply] at h
  rcases Nat.eq_zero_or_pos (owed c 0 g ()) with h0 | h0
  · by_cases h1 : g = bcell (onRight c)
    · subst h1; exact ⟨rfl, by rw [lv_bar]; decide⟩
    · by_cases h2 : g = bcell (onLeft c)
      · subst h2; exact ⟨rfl, by rw [lv_bar]; decide⟩
      · rw [h0, if_neg (fun h' => h1 h'.1), if_neg (fun h' => h2 h'.1)] at h
        exact absurd h (by decide)
  · have := owed_lev h0
    exact ⟨this.1, by omega⟩

/-- A wait at level `n` at most is allowed while all that is owed lies above `n`. -/
theorem mayWait_cut (c : Dev nD) (sm : SemLoc sig) (n : ℕ) (O : CellTallies nD τ sig Unit) (h1 : lv ((c : Thread nD τ), sm) () ≤ n)
    (h2 : ∀ g, 0 < O g () → g.1.2 = .tc ∧ n < lv g ()) : (levAts L lv : sProp 𝕄) ⊢ MayWait (c : Thread nD τ) sm () O :=
  MayOwe.of_cut (L := L) (lev := lv) n
    (fun p hp => by rw [Finset.mem_singleton.mp hp, L_tc _ rfl]; exact Finset.mem_singleton_self _)
    (fun g u hg => by rw [L_tc g (h2 g hg).1]; exact Finset.mem_singleton_self _)
    (fun p hp => by rw [Finset.mem_singleton.mp hp]; exact h1)
    (fun g u hg => (h2 g hg).2)

/-- At the barrier a device owes only copies. -/
theorem mayWait_bar (c : Dev nD) : (levAts L lv : sProp 𝕄) ⊢ MayWait (c : Thread nD τ) (.reg barSem) () (owed c 0) :=
  mayWait_cut c _ 1 _ le_rfl fun g hg => owed_lev hg

/-- In hop `n`, its copies under way, a device may wait on any cell of level `n + 2` or below. -/
theorem mayWait_x (c : Dev nD) (n : ℕ) (k : XK) (hk : xlev k ≤ n + 2) :
    (levAts L lv : sProp 𝕄) ⊢ MayWait (c : Thread nD τ) (.dma (xsem k)) () (owed c (n + 1)) :=
  mayWait_cut c _ (n + 2) _ ((lv_x c k).le.trans hk) fun g hg => owed_lev hg

/-- The staging transfers' waits. -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · exact mayWait_cut c _ 0 _ (by dsimp only [lv]; rw [kindOf_low q hq]) fun g hg => O₀_lev hg
  · rw [MayWait_zero]; iintro -; iempintro

/-! ## What a device holds between hops -/

/-- Every cell's invariant, and that it is in its first round. -/
def records (K : Dev nD × CK → ℕ) : sProp 𝕄 :=
  iprop((bigSep Finset.univ fun ck : Dev nD × CK => cellInv ER (sched m) (K ck) (kcell ck))
    ∗ bigSep Finset.univ fun ck : Dev nD × CK => reached ER (kcell ck) 0)
instance records_persistent (K : Dev nD × CK → ℕ) : BI.Persistent (records m K) := by unfold records; infer_instance

theorem inv_x (K : Dev nD × CK → ℕ) (c : Dev nD) (k : XK) : records m K ⊢ cellInv ER (sched m) (K (c, .inr k)) (xcell c k) := by
  unfold records
  iintro ⟨H, -⟩
  iapply (show (bigSep Finset.univ fun ck : Dev nD × CK => (cellInv ER (sched m) (K ck) (kcell ck) : sProp 𝕄))
    ⊢ cellInv ER (sched m) (K (c, Sum.inr k)) (kcell (c, Sum.inr k)) from bigSep_elim (Finset.mem_univ (c, Sum.inr k)))
  iexact H
theorem inv_bar (K : Dev nD × CK → ℕ) (c : Dev nD) : records m K ⊢ cellInv ER (sched m) (K (c, .inl ())) (bcell c) := by
  unfold records
  iintro ⟨H, -⟩
  iapply (show (bigSep Finset.univ fun ck : Dev nD × CK => (cellInv ER (sched m) (K ck) (kcell ck) : sProp 𝕄))
    ⊢ cellInv ER (sched m) (K (c, Sum.inl ())) (kcell (c, Sum.inl ())) from bigSep_elim (Finset.mem_univ (c, Sum.inl ())))
  iexact H
theorem reached_x (K : Dev nD × CK → ℕ) (c : Dev nD) (k : XK) : records m K ⊢ reached ER (xcell c k) 0 := by
  unfold records
  iintro ⟨-, H⟩
  iapply (show (bigSep Finset.univ fun ck : Dev nD × CK => (reached ER (kcell ck) 0 : sProp 𝕄))
    ⊢ reached ER (kcell (c, Sum.inr k)) 0 from bigSep_elim (Finset.mem_univ (c, Sum.inr k)))
  iexact H
theorem reached_bar (K : Dev nD × CK → ℕ) (c : Dev nD) : records m K ⊢ reached ER (bcell c) 0 := by
  unfold records
  iintro ⟨-, H⟩
  iapply (show (bigSep Finset.univ fun ck : Dev nD × CK => (reached ER (kcell ck) 0 : sProp 𝕄))
    ⊢ reached ER (kcell (c, Sum.inl ())) 0 from bigSep_elim (Finset.mem_univ (c, Sum.inl ())))
  iexact H

/-- The rights that one copy uses up: its two duties, the device's places at its own two cells of that hop, and the
    credit for what comes to it. -/
def rights (c d : Dev nD) (s v : XK) : sProp 𝕄 :=
  iprop(dutyTok ER (xcell c s) 0 false ∗ dutyTok ER (xcell d v) 0 false ∗ atPos ER (xcell c s) 0 ∅ 0 ∗ atPos ER (xcell c v) 0 ∅ 0
    ∗ cred (tallyAt (xcell c v) () N))

def todoR (c : Dev nD) (n : ℕ) : sProp 𝕄 :=
  bigSep (Finset.univ.filter fun h : Fin 16 => n ≤ h.val) fun h => rights c (onRight c) (sR h) (vR h)
def todoL (c : Dev nD) (n : ℕ) : sProp 𝕄 :=
  bigSep (Finset.univ.filter fun h : Fin 15 => n ≤ h.val) fun h => rights c (onLeft c) (sL h) (vL h)

/-- The cells of the hops done, at rest. -/
def doneR (c : Dev nD) (n : ℕ) : sProp 𝕄 :=
  bigSep (Finset.univ.filter fun h : Fin 16 => h.val < n) fun h => iprop(semVal (xcell c (sR h)) 0 ∗ semVal (xcell c (vR h)) 0)
def doneL (c : Dev nD) (n : ℕ) : sProp 𝕄 :=
  bigSep (Finset.univ.filter fun h : Fin 15 => h.val < n) fun h => iprop(semVal (xcell c (sL h)) 0 ∗ semVal (xcell c (vL h)) 0)

theorem todoR_step (c : Dev nD) (n : ℕ) (hn : n < 16) :
    (todoR c n : sProp 𝕄) = iprop(rights c (onRight c) (sR ⟨n, hn⟩) (vR ⟨n, hn⟩) ∗ todoR c (n + 1)) := by
  unfold todoR; rw [from_step n hn, bigSep_insert (from_not_mem n hn)]; rfl
theorem todoL_step (c : Dev nD) (n : ℕ) (hn : n < 15) :
    (todoL c n : sProp 𝕄) = iprop(rights c (onLeft c) (sL ⟨n, hn⟩) (vL ⟨n, hn⟩) ∗ todoL c (n + 1)) := by
  unfold todoL; rw [from_step n hn, bigSep_insert (from_not_mem n hn)]; rfl
theorem doneR_step (c : Dev nD) (n : ℕ) (hn : n < 16) :
    (doneR c (n + 1) : sProp 𝕄) = iprop((semVal (xcell c (sR ⟨n, hn⟩)) 0 ∗ semVal (xcell c (vR ⟨n, hn⟩)) 0) ∗ doneR c n) := by
  unfold doneR; rw [before_step n hn, bigSep_insert (before_not_mem n hn)]; rfl
theorem doneL_step (c : Dev nD) (n : ℕ) (hn : n < 15) :
    (doneL c (n + 1) : sProp 𝕄) = iprop((semVal (xcell c (sL ⟨n, hn⟩)) 0 ∗ semVal (xcell c (vL ⟨n, hn⟩)) 0) ∗ doneL c n) := by
  unfold doneL; rw [before_step n hn, bigSep_insert (before_not_mem n hn)]; rfl

/-- Before hop `n`: the rights of the hops to come, the cells of the hops done, the slots filled, the neighbours' slots
    still to fill, the debts. -/
def carry (c : Dev nD) (n : ℕ) : sProp 𝕄 :=
  iprop(todoR c n ∗ todoL c n ∗ doneR c n ∗ doneL c n ∗ fin m c (held n) fullShare
    ∗ any (onRight c) (zoneR n) ∗ any (onLeft c) (zoneL n) ∗ ∃ W, owes (c : Thread nD τ) (owed c n) W)

end Cert.Moe

end
-- ==== Proof.Hops.lean ====
/-
# The hops

Each hop, run from what the device holds before it, ends in what it holds before the next one, and adds the
slots worked in to the running product and count.
-/
module

public import proofs.«01_k».proof.Proof.Protocol

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

abbrev 𝒱₀ : Variants := Variants.none

/-! ## Parts of the scratch -/

/-- The full share is the three shares. -/
theorem fin_shares (c : Dev nD) (S : Finset S32x264x256.Idx) :
    (fin m c S fullShare : sProp 𝕄) ⊣⊢ iprop((fin m c S qR ∗ fin m c S qL) ∗ fin m c S qK) := by
  have h1 : (fin m c S fullShare : sProp 𝕄) ⊣⊢ iprop(fin m c S fullShare.left ∗ fin m c S qK) :=
    pointsTo_share (PosShare.mem_left_op_right fullShare)
  have h2 : (fin m c S fullShare.left : sProp 𝕄) ⊣⊢ iprop(fin m c S qR ∗ fin m c S qL) :=
    pointsTo_share (PosShare.mem_left_op_right fullShare.left)
  exact ⟨h1.1.trans (sep_mono_left h2.1), (sep_mono_left h2.2).trans h1.2⟩

/-- A slot taken out of a part, and put back. -/
theorem fin_take (c : Dev nD) (S : Finset S32x264x256.Idx) (j : ℕ) (q : PosShare TreeShare) (h : slotSet j ⊆ S) :
    (fin m c S q : sProp 𝕄) ⊣⊢ iprop(fin m c (slotSet j) q ∗ fin m c (S \ slotSet j) q) :=
  pointsTo_split_subset h

/-- Disjoint parts, both final, are one. -/
theorem fin_union (c : Dev nD) (S T : Finset S32x264x256.Idx) (q : PosShare TreeShare) (h : Disjoint S T) :
    iprop(fin m c S q ∗ fin m c T q) ⊢ (fin m c (S ∪ T) q : sProp 𝕄) :=
  (pointsTo_union h).2

/-- Parts of unknown contents split too. -/
theorem any_union (c : Dev nD) (S T : Finset S32x264x256.Idx) (h : Disjoint S T) :
    (any c (S ∪ T) : sProp 𝕄) ⊢ iprop(any c S ∗ any c T) := by
  unfold any
  iintro ⟨%f, H⟩
  ihave H2 := (pointsTo_union h).1 $$ H
  icases H2 with ⟨H1, H2⟩
  isplitl [H1]
  · iexists f; iexact H1
  · iexists f; iexact H2

theorem any_zoneR (c : Dev nD) (n : ℕ) (hn : n < 16) : (any c (zoneR n) : sProp 𝕄) ⊢ iprop(any c (slotSet (n + 1)) ∗ any c (zoneR (n + 1))) := by
  rw [zoneR_step hn]; exact any_union c _ _ (zoneR_disj n)
theorem any_zoneL (c : Dev nD) (n : ℕ) (hn : n < 15) : (any c (zoneL n) : sProp 𝕄) ⊢ iprop(any c (slotSet (31 - n)) ∗ any c (zoneL (n + 1))) := by
  rw [zoneL_step hn]; exact any_union c _ _ (zoneL_disj hn)

/-- The two slots that a hop brings join those held. -/
theorem fin_grow (c : Dev nD) (n : ℕ) (hn : n < 15) :
    iprop((fin m c (held n) fullShare ∗ fin m c (slotSet (n + 1)) fullShare) ∗ fin m c (slotSet (31 - n)) fullShare)
      ⊢ (fin m c (held (n + 1)) fullShare : sProp 𝕄) := by
  rw [held_step hn]
  exact (sep_mono_left (fin_union m c _ _ _ (held_disj' (by omega)))).trans (fin_union m c _ _ _ (held_disj hn))
/-- The last slot completes the scratch. -/
theorem fin_complete (c : Dev nD) :
    iprop(fin m c (held 15) fullShare ∗ fin m c (slotSet 16) fullShare) ⊢ (fin m c Finset.univ fullShare : sProp 𝕄) := by
  rw [held_last]
  exact fin_union m c _ _ _ (held_disj' (by decide))

/-! ## One copy, one wait, one load -/

/-- A copy of slot `j` of `c` onto slot `k` of `d`, paying the duties of the cells `s` of `c` and `v` of `d`. -/
theorem wp_copy (c d d' : Dev nD) (hd : d' = d) (j k : ℕ) (hj : j < 32) (hk : k < 32) (ho : origin d k = origin c j) (s v : XK)
    (sq vq : DmaSem sig) (hs : sq = xsem s) (hv : vq = xsem v) (q : PosShare TreeShare)
    (hp₁ : pay m c s = fin m c (slotSet j) q) (hp₂ : pay m d v = fin m d (slotSet k) fullShare)
    (O : CellTallies nD τ sig Unit) (W : Waits sig Unit)
    {hsc : (slotM k hk : Memref sig (Dev.tc d' : Thread nD τ).2.kind .vmem S264x256 .f32).view.ref.isScScratch = false}
    {hsrc : (slotM j hj).view.WordExact} {hdst : (slotM k hk).view.WordExact}
    {hsem : DmaTarget.Typed .vmem (.dma vq) (.remote (Dev.tc d' : Thread nD τ) (slotM k hk) (.dma sq) hsc)}
    {α : Type} {Q : α → sProp 𝕄} {p : PUnit → Prog (TpuEff nD τ sig (Elt F) Λ₀ .tc) α} :
    iprop(records m K ∗ fin m c (slotSet j) q ∗ any d (slotSet k) ∗ owes (c : Thread nD τ) (O + tallyAt (xcell d v) () N) W
        ∗ dutyTok ER (xcell c s) 0 false ∗ dutyTok ER (xcell d v) 0 false)
      ⊢ iprop(((cred (tallyAt (xcell c s) () N) ∗ owes (c : Thread nD τ) O W) -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma (slotM j hj) (.remote (Dev.tc d' : Thread nD τ) (slotM k hk) (.dma sq) hsc) (.dma vq) hsrc hdst hsem) p) Q) := by
  subst hd hs hv
  iintro ⟨#HR, Hs, Hd, HO, Ht₁, Ht₂⟩
  unfold any fin
  icases Hd with ⟨%fd, Hd⟩
  iapply (Rounds.wp_send_pointsTo 𝒱₀ ER (sched m) (c : Thread nD τ) none (c' := (Dev.tc d' : Thread nD τ)) (src := slotM j hj) (dst := slotM k hk)
    (hsc := hsc) (hsrc := hsrc) (hdst := hdst) (hsem := hsem) (sS := .dma (xsem s)) (sem := .dma (xsem v)) (k := p) (κ₁ := K (c, .inr s)) (κ₂ := K (d', .inr v))
    (r₁ := 0) (r₂ := 0) (d₁ := false) (d₂ := false) (fs := final m c) (fd := fd) (q := q)
    (by rw [duties_x]; exact Finset.mem_singleton_self _) (by rw [duties_x]; exact Finset.mem_singleton_self _)
    () () N (credit_eq k hk) (amount_x m c s false) (amount_x m d' v false) O rfl (W := W)
    (by rw [payload_x, hp₁, slotM_set j hj]; exact BI.Entails.refl _)
    (by rw [payload_x, hp₂, slotM_set k hk]
        exact Entails.of_eq (pointsTo_congr fun i hi => land m c d' j k hj hk ho fd i hi)))
  isplitr; · iapply (inv_x m K c s); iexact HR
  isplitr; · iapply (inv_x m K d' v); iexact HR
  isplitl [Hs]; · rw [slotM_set j hj]; iexact Hs
  isplitl [Hd]; · rw [slotM_set k hk]; iexact Hd
  isplitl [HO]; · iexact HO
  isplitl [Ht₁]; · iexact Ht₁
  isplitr; · iapply (reached_x m K c s); iexact HR
  isplitl [Ht₂]; · iexact Ht₂
  iapply (reached_x m K d' v); iexact HR

/-- A wait of hop `n` on the copy cell `k`: what the cell hands over comes, and the cell is at rest. -/
theorem wp_wait (c : Dev nD) (n : ℕ) (k : XK) (hk : xlev k ≤ n + 2) (q : DmaSem sig) (hq : q = xsem k) (i j : ℕ) (hi : i < 32) (hj : j < 32)
    (W : Waits sig Unit)
    {hsrc : (slotM i hi).view.WordExact} {hdst : (slotM j hj).view.WordExact}
    {α : Type} {Q : α → sProp 𝕄} {p : PUnit → Prog (TpuEff nD τ sig (Elt F) Λ₀ .tc) α} :
    iprop(records m K ∗ levAts L lv ∗ cred (tallyAt (xcell c k) () N) ∗ owes (c : Thread nD τ) (owed c (n + 1)) W ∗ atPos ER (xcell c k) 0 ∅ 0)
      ⊢ iprop(((owes (c : Thread nD τ) (owed c (n + 1)) (insert (SemLoc.dma (xsem k), ()) W) ∗ semVal (xcell c k) 0 ∗ pay m c k)
            -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 q (slotM i hi) (slotM j hj) hsrc hdst) p) Q) := by
  subst hq
  iintro ⟨#HR, #HL, Hc, HO, Hat⟩ Hk
  iapply (Rounds.wp_wait_rest_token 𝒱₀ ER (sched m) (c : Thread nD τ) none (κ := K (c, .inr k))
      (wpE_waitDma2_eq 𝒱₀ (c : Thread nD τ) none Set.univ) (Set.mem_univ _) () (O := owed c (n + 1)) (W := W) (R := 0) (m := 0) (T := ∅)
      (by rw [Nat.zero_add, credit_eq, expect_x])) $$ [Hc HO Hat]
  · isplitr; · iapply (inv_x m K c k); iexact HR
    isplitl [Hc]; · iexact Hc
    isplitl [HO]; · iexact HO
    isplitr; · iapply (mayWait_x c n k hk); iexact HL
    iexact Hat
  iintro ⟨HO, Hat, -, Hpay⟩
  imod (Rounds.cell_close ER (sched m) (Set.mem_univ (K (c, .inr k))) (fun h => h) (R := 0 + 1) (duties_later m (xcell c k))) $$ [Hat] with Hz
  · isplitr; · iapply (inv_x m K c k); iexact HR
    iexact Hat
  iapply Hk
  isplitl [HO]; · iexact HO
  isplitl [Hz]; · iexact Hz
  iapply (Entails.of_eq (rest_x m c k)); iexact Hpay

/-- A slot's contents as a load reads them. -/
def slotVal (c : Dev nD) (j : ℕ) : Vec F S1x264x256 .f32 := fun x =>
  chunkAt (w0In m (origin c j)) (w1In m (origin c j)) (k0_pay4 (rIn m (origin c j))) (x 1) (x 2)

theorem read_slot (c : Dev nD) (j : ℕ) (hj : j < 32) : (sM.access (slotR j hj)).read (Elt F) (final m c) = slotVal m c j := by
  funext x
  show final m c ((slotR j hj).emb x) = slotVal m c j x
  unfold final slotVal
  rw [slotR_emb0, slotR_emb1, slotR_emb2]

/-- A load of slot `j` from a part that holds it. -/
theorem wp_loadSlot (c : Dev nD) (j : ℕ) (hj : j < 32) (S : Finset S32x264x256.Idx) (hS : slotSet j ⊆ S) (q : PosShare TreeShare)
    {hl : sM.view.LoadsAt (slotR j hj).toLoadRect}
    {α : Type} {Q : α → sProp 𝕄} {p : Vec F S1x264x256 .f32 → Prog (TpuEff nD τ sig (Elt F) Λ₀ .tc) α} :
    (fin m c S q : sProp 𝕄)
      ⊢ iprop((fin m c S q -∗ wp frame (wpE (defs₀ (F := F)) 𝒱₀ (c : Thread nD τ) none) Set.univ (p (slotVal m c j)) Q)
        -∗ wp frame (wpE (defs₀ (F := F)) 𝒱₀ (c : Thread nD τ) none) Set.univ (.op (.load sM (slotR j hj).toLoadRect hl) p) Q) := by
  rw [← read_slot m c j hj]
  exact wp_load_rect 𝒱₀ (c : Thread nD τ) none Set.univ (m := sM) (r := slotR j hj) (S := S) (q := q) (f := final m c) (k := p)
    (by rw [show (sM.access (slotR j hj)).set = slotSet j from (View.set_slice_whole cc0_scratch0 (slotR j hj)).trans (slotR_set j hj)]; exact hS)

end Cert.Moe

end
-- ==== Proof.Ring.lean ====
/-
# Sixteen hops

A hop starts its copies, works in the slots it already holds, and waits for its copies. Run from what the device
holds before it, it ends in what the device holds before the next hop, and adds what it worked in to the running
product and count.
-/
module

public import proofs.«01_k».proof.Proof.Hops

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-- The weakest precondition of a piece of device `c`'s body. -/
abbrev WP {α : Type} (c : Dev nD) (p : Body F α) (Q : α → sProp 𝕄) : sProp 𝕄 :=
  wp frame (wpE (defs₀ (F := F)) 𝒱₀ (c : Thread nD τ) none) Set.univ p Q

theorem WP_ret {α : Type} (c : Dev nD) (a : α) (Q : α → sProp 𝕄) : Q a ⊢ WP c (.ret a) Q := le_wp_ret _ _ _ a Q
theorem WP_bind {α β : Type} (c : Dev nD) (p : Body F α) (k : α → Body F β) (Q : β → sProp 𝕄) :
    WP c (p >>= k) Q = WP c p (fun a => WP c (k a) Q) := wp_bind _ _ _ p k Q

/-- A copy under way: the credits for both its ends on `c`, and `c`'s places at these two cells. -/
def flying (c : Dev nD) (s v : XK) : sProp 𝕄 :=
  iprop((cred (tallyAt (xcell c s) () N) ∗ atPos ER (xcell c s) 0 ∅ 0) ∗ (cred (tallyAt (xcell c v) () N) ∗ atPos ER (xcell c v) 0 ∅ 0))

/-- Within hop `n`: the slots held, less the shares lent to the copies, and the copies under way. -/
def amid (c : Dev nD) (n : ℕ) (hn : n < 15) : sProp 𝕄 :=
  iprop((fin m c (held n \ slotSet n) qR ∗ fin m c (held n \ slotSet (src n)) qL)
    ∗ flying c (sR ⟨n, by omega⟩) (vR ⟨n, by omega⟩) ∗ flying c (sL ⟨n, hn⟩) (vL ⟨n, hn⟩)
    ∗ todoR c (n + 1) ∗ todoL c (n + 1) ∗ doneR c n ∗ doneL c n
    ∗ any (onRight c) (zoneR (n + 1)) ∗ any (onLeft c) (zoneL (n + 1)) ∗ ∃ W, owes (c : Thread nD τ) (owed c (n + 1)) W)

theorem src_lt (n : ℕ) : src n < 32 := Nat.mod_lt _ (by decide)

/-- The debt of hop `n`, its rightward copy taken off, then its leftward one. -/
theorem owed_step (c : Dev nD) (n : ℕ) (hn : n < 15) :
    owed c n = (owed c (n + 1) + tallyAt (xcell (onLeft c) (vL ⟨n, hn⟩)) () N) + tallyAt (xcell (onRight c) (vR ⟨n, by omega⟩)) () N := by
  unfold owed
  rw [owedL_step c n hn, owedR_step c n (by omega)]
  ac_rfl

/-- The two copies of hop `n` started. -/
theorem run_copies (c : Dev nD) (n : ℕ) (hn : n < 15) (j : ℕ) (hj : j < 32) (hs : j = src n)
    {α : Type} {Q : α → sProp 𝕄} {k : PUnit → Body F α} :
    iprop(records m K ∗ carry m c n)
      ⊢ iprop((iprop(amid m c n hn ∗ fin m c (held n) qK) -∗ WP c (k ⟨⟩) Q)
          -∗ WP c (copyRight c n (by omega) >>= fun _ => copyLeft c n j hn hj >>= k) Q) := by
  subst hs
  unfold carry copyRight copyLeft
  simp only [Prog.bind_lift]
  rw [todoR_step c n (by omega), todoL_step c n hn]
  unfold rights
  have a16 : n < 16 := by omega
  have a32 : n < 32 := by omega
  have b32 : n + 1 < 32 := by omega
  have c32 : 31 - n < 32 := by omega
  have a31 : n < 31 := by omega
  have sl : slotSet (src n) ⊆ held n := slot_held (by unfold src; omega)
  iintro ⟨#HR, ⟨⟨Rs, Rv, Rps, Rpv, Rc⟩, TR⟩, ⟨⟨Ls, Lv, Lps, Lpv, Lc⟩, TL⟩, DR, DL, H, ZR, ZL, ⟨%W, HO⟩⟩ Hk
  ihave H1 := (fin_shares m c (held n)).1 $$ H
  icases H1 with ⟨⟨HqR, HqL⟩, HqK⟩
  ihave H2 := (fin_take m c (held n) n qR (slot_held (.inl le_rfl))).1 $$ HqR
  icases H2 with ⟨HsR, HqR⟩
  ihave H3 := (fin_take m c (held n) (src n) qL sl).1 $$ HqL
  icases H3 with ⟨HsL, HqL⟩
  ihave H4 := (any_zoneR (F := F) (onRight c) n a16) $$ ZR
  icases H4 with ⟨HdR, ZR⟩
  ihave H5 := (any_zoneL (F := F) (onLeft c) n hn) $$ ZL
  icases H5 with ⟨HdL, ZL⟩
  rw [owed_step c n hn]
  iapply (wp_copy m K c (onRight c) (right' c) (right'_eq c) n (n + 1) a32 b32 (origin_right c a31)
    (sR ⟨n, a16⟩) (vR ⟨n, a16⟩) (rSend n a16) (rRecv n a16) (rSend_eq ⟨n, a16⟩) (rRecv_eq ⟨n, a16⟩)
    qR rfl rfl (owed c (n + 1) + tallyAt (xcell (onLeft c) (vL ⟨n, hn⟩)) () N) W) $$ [HsR HdR HO Rs Rv]
  · isplitr; · iexact HR
    isplitl [HsR]; · iexact HsR
    isplitl [HdR]; · iexact HdR
    isplitl [HO]; · iexact HO
    isplitl [Rs]; · iexact Rs
    iexact Rv
  iintro ⟨Rcs, HO⟩
  iapply (wp_copy m K c (onLeft c) (left' c) (left'_eq c) (src n) (31 - n) (src_lt n) c32 (origin_left c hn)
    (sL ⟨n, hn⟩) (vL ⟨n, hn⟩) (lSend n hn) (lRecv n hn) (lSend_eq ⟨n, hn⟩) (lRecv_eq ⟨n, hn⟩)
    qL rfl rfl (owed c (n + 1)) W) $$ [HsL HdL HO Ls Lv]
  · isplitr; · iexact HR
    isplitl [HsL]; · iexact HsL
    isplitl [HdL]; · iexact HdL
    isplitl [HO]; · iexact HO
    isplitl [Ls]; · iexact Ls
    iexact Lv
  iintro ⟨Lcs, HO⟩
  iapply Hk
  unfold amid flying
  isplitr [HqK]
  · isplitl [HqR HqL]
    · isplitl [HqR]; · iexact HqR
      iexact HqL
    isplitl [Rcs Rps Rc Rpv]
    · isplitl [Rcs Rps]
      · isplitl [Rcs]; · iexact Rcs
        iexact Rps
      · isplitl [Rc]; · iexact Rc
        iexact Rpv
    isplitl [Lcs Lps Lc Lpv]
    · isplitl [Lcs Lps]
      · isplitl [Lcs]; · iexact Lcs
        iexact Lps
      · isplitl [Lc]; · iexact Lc
        iexact Lpv
    isplitl [TR]; · iexact TR
    isplitl [TL]; · iexact TL
    isplitl [DR]; · iexact DR
    isplitl [DL]; · iexact DL
    isplitl [ZR]; · iexact ZR
    isplitl [ZL]; · iexact ZL
    iexists W; iexact HO
  · iexact HqK

/-- The four waits of hop `n`. -/
theorem run_waits (c : Dev nD) (n : ℕ) (hn : n < 15) (j : ℕ) (hj : j < 32)
    {α : Type} {Q : α → sProp 𝕄} {k : PUnit → Body F α} :
    iprop(records m K ∗ levAts L lv ∗ amid m c n hn ∗ fin m c (held n) qK)
      ⊢ iprop((carry m c (n + 1) -∗ WP c (k ⟨⟩) Q)
          -∗ WP c (waitOn (rRecv n (by omega)) n (n + 1) (by omega) (by omega) >>= fun _ =>
              waitOn (rSend n (by omega)) (n + 1) n (by omega) (by omega) >>= fun _ =>
              waitOn (lRecv n hn) j (31 - n) hj (by omega) >>= fun _ =>
              waitOn (lSend n hn) (31 - n) j (by omega) hj >>= k) Q) := by
  unfold amid waitOn flying
  simp only [Prog.bind_lift]
  have a16 : n < 16 := by omega
  have a32 : n < 32 := by omega
  have b32 : n + 1 < 32 := by omega
  have c32 : 31 - n < 32 := by omega
  have a31 : n < 31 := by omega
  have sl : slotSet (src n) ⊆ held n := slot_held (by unfold src; omega)
  iintro ⟨#HR, #HL, ⟨⟨HqR, HqL⟩, ⟨⟨Rcs, Rps⟩, Rc, Rpv⟩, ⟨⟨Lcs, Lps⟩, Lc, Lpv⟩, TR, TL, DR, DL, ZR, ZL, ⟨%W, HO⟩⟩, HqK⟩ Hk
  iapply (wp_wait m K c n (vR ⟨n, a16⟩) le_rfl (rRecv n a16) (rRecv_eq ⟨n, a16⟩) n (n + 1) a32 b32 W) $$ [Rc HO Rpv]
  · isplitr; · iexact HR
    isplitr; · iexact HL
    isplitl [Rc]; · iexact Rc
    isplitl [HO]; · iexact HO
    iexact Rpv
  iintro ⟨HO, Rzv, PRv⟩
  iapply (wp_wait m K c n (sR ⟨n, a16⟩) (Nat.zero_le _) (rSend n a16) (rSend_eq ⟨n, a16⟩) (n + 1) n b32 a32 _) $$ [Rcs HO Rps]
  · isplitr; · iexact HR
    isplitr; · iexact HL
    isplitl [Rcs]; · iexact Rcs
    isplitl [HO]; · iexact HO
    iexact Rps
  iintro ⟨HO, Rzs, PRs⟩
  iapply (wp_wait m K c n (vL ⟨n, hn⟩) le_rfl (lRecv n hn) (lRecv_eq ⟨n, hn⟩) j (31 - n) hj c32 _) $$ [Lc HO Lpv]
  · isplitr; · iexact HR
    isplitr; · iexact HL
    isplitl [Lc]; · iexact Lc
    isplitl [HO]; · iexact HO
    iexact Lpv
  iintro ⟨HO, Lzv, PLv⟩
  iapply (wp_wait m K c n (sL ⟨n, hn⟩) (Nat.zero_le _) (lSend n hn) (lSend_eq ⟨n, hn⟩) (31 - n) j c32 hj _) $$ [Lcs HO Lps]
  · isplitr; · iexact HR
    isplitr; · iexact HL
    isplitl [Lcs]; · iexact Lcs
    isplitl [HO]; · iexact HO
    iexact Lps
  iintro ⟨HO, Lzs, PLs⟩
  ihave H2 := (fin_take m c (held n) n qR (slot_held (.inl le_rfl))).2 $$ [PRs HqR]
  · isplitl [PRs]; · unfold pay; iexact PRs
    iexact HqR
  ihave H3 := (fin_take m c (held n) (src n) qL sl).2 $$ [PLs HqL]
  · isplitl [PLs]; · unfold pay; iexact PLs
    iexact HqL
  ihave H4 := (fin_shares m c (held n)).2 $$ [H2 H3 HqK]
  · isplitr [HqK]
    · isplitl [H2]; · iexact H2
      iexact H3
    · iexact HqK
  ihave H5 := (fin_grow m c n hn) $$ [H4 PRv PLv]
  · isplitr [PLv]
    · isplitl [H4]; · iexact H4
      unfold pay; iexact PRv
    · unfold pay; iexact PLv
  iapply Hk
  unfold carry
  rw [doneR_step c n (by omega), doneL_step c n hn]
  isplitl [TR]; · iexact TR
  isplitl [TL]; · iexact TL
  isplitl [DR Rzs Rzv]
  · isplitr [DR]
    · isplitl [Rzs]; · iexact Rzs
      iexact Rzv
    · iexact DR
  isplitl [DL Lzs Lzv]
  · isplitr [DL]
    · isplitl [Lzs]; · iexact Lzs
      iexact Lzv
    · iexact DL
  isplitl [H5]; · iexact H5
  isplitl [ZR]; · iexact ZR
  isplitl [ZL]; · iexact ZL
  iexists _; iexact HO

/-! ## The running product and count -/

/-- After the first hop, and after each further one. -/
def accAt (c : Dev nD) : ℕ → Acc F
  | 0 => step0 (me c) (loaded m c).x (loaded m c).r (slotVal m c 0)
  | n + 1 => step (me c) (loaded m c).x (loaded m c).r (loaded m c).q (32 - (n + 1)) (slotVal m c (32 - (n + 1)))
      (step (me c) (loaded m c).x (loaded m c).r (loaded m c).q (n + 1) (slotVal m c (n + 1)) (accAt c n))

/-- After the last one. -/
def accEnd (c : Dev nD) : Acc F :=
  step (me c) (loaded m c).x (loaded m c).r (loaded m c).q 16 (slotVal m c 16)
    (step (me c) (loaded m c).x (loaded m c).r (loaded m c).q 17 (slotVal m c 17)
      (step (me c) (loaded m c).x (loaded m c).r (loaded m c).q 15 (slotVal m c 15) (accAt m c 14)))

/-- Hop 0. -/
theorem run_hop0 (c : Dev nD) {Q : Acc F → sProp 𝕄} :
    iprop(records m K ∗ levAts L lv ∗ carry m c 0) ⊢ iprop((carry m c 1 -∗ Q (accAt m c 0)) -∗ WP c (hop0 c (loaded m c)) Q) := by
  unfold hop0
  have h0 : 0 < 15 := by decide
  have z : 0 < 32 := by decide
  rw [accAt]
  iintro ⟨#HR, #HL, HC⟩ Hk
  iapply (run_copies m K c 0 h0 0 z rfl) $$ [HC]
  · isplitr; · iexact HR
    iexact HC
  iintro ⟨HA, HqK⟩
  unfold loadSlot
  simp only [Prog.bind_lift]
  iapply (wp_loadSlot m c 0 z (held 0) (slot_held (.inl le_rfl)) qK) $$ HqK
  iintro HqK
  iapply (run_waits m K c 0 h0 0 z) $$ [HA HqK]
  · isplitr; · iexact HR
    isplitr; · iexact HL
    isplitl [HA]; · iexact HA
    iexact HqK
  iintro HC
  iapply (WP_ret c _ Q)
  iapply Hk
  iexact HC

/-- Hop `n + 1`. -/
theorem run_hop (c : Dev nD) (n : ℕ) (hn : n + 1 < 15) {Q : Acc F → sProp 𝕄} :
    iprop(records m K ∗ levAts L lv ∗ carry m c (n + 1))
      ⊢ iprop((carry m c (n + 2) -∗ Q (accAt m c (n + 1))) -∗ WP c (hop c (loaded m c) (n + 1) (by omega) hn (accAt m c n)) Q) := by
  unfold hop
  have a32 : n + 1 < 32 := by omega
  have b32 : 32 - (n + 1) < 32 := by omega
  have e : 32 - (n + 1) = src (n + 1) := by unfold src; omega
  have sl : slotSet (32 - (n + 1)) ⊆ held (n + 1) := slot_held (by omega)
  rw [accAt]
  iintro ⟨#HR, #HL, HC⟩ Hk
  iapply (run_copies m K c (n + 1) hn (32 - (n + 1)) b32 e) $$ [HC]
  · isplitr; · iexact HR
    iexact HC
  iintro ⟨HA, HqK⟩
  unfold loadSlot
  simp only [Prog.bind_lift]
  iapply (wp_loadSlot m c (n + 1) a32 (held (n + 1)) (slot_held (.inl le_rfl)) qK) $$ HqK
  iintro HqK
  iapply (wp_loadSlot m c (32 - (n + 1)) b32 (held (n + 1)) sl qK) $$ HqK
  iintro HqK
  iapply (run_waits m K c (n + 1) hn (32 - (n + 1)) b32) $$ [HA HqK]
  · isplitr; · iexact HR
    isplitr; · iexact HL
    isplitl [HA]; · iexact HA
    iexact HqK
  iintro HC
  iapply (WP_ret c _ Q)
  iapply Hk
  iexact HC

/-- The first fifteen hops. -/
theorem run_hops (c : Dev nD) (n : ℕ) (hn : n < 15) (Q : Acc F → sProp 𝕄) :
    iprop(records m K ∗ levAts L lv ∗ carry m c 0) ⊢ iprop((carry m c (n + 1) -∗ Q (accAt m c n)) -∗ WP c (hops c (loaded m c) n hn) Q) := by
  induction n generalizing Q with
  | zero => exact run_hop0 m K c
  | succ n ih =>
    unfold hops
    iintro ⟨#HR, #HL, HC⟩ Hk
    rw [WP_bind]
    have hn' : n < 15 := by omega
    iapply (ih hn' _) $$ [HC]
    · isplitr; · iexact HR
      isplitr; · iexact HL
      iexact HC
    iintro HC
    iapply (run_hop m K c n hn) $$ [HC]
    · isplitr; · iexact HR
      isplitr; · iexact HL
      iexact HC
    iexact Hk

/-- At the end: every cell at rest, the scratch whole, no debt. -/
def ended (c : Dev nD) : sProp 𝕄 :=
  iprop(doneR c 16 ∗ doneL c 15 ∗ fin m c Finset.univ fullShare ∗ ∃ W, owes (c : Thread nD τ) 0 W)

theorem owed_last (c : Dev nD) : owed c 15 = owed c 16 + tallyAt (xcell (onRight c) (vR ⟨15, by decide⟩)) () N := by
  unfold owed
  rw [owedR_step c 15 (by decide), owedL_end]
  have h : owedL c 16 = 0 := by
    unfold owedL; rw [Finset.filter_false_of_mem (fun h _ => by have := h.isLt; omega), Finset.sum_empty]
  rw [h, zero_add, zero_add]
theorem owed_end (c : Dev nD) : owed c 16 = 0 := by
  unfold owed
  rw [owedR_end, add_zero]
  unfold owedL; rw [Finset.filter_false_of_mem (fun h _ => by have := h.isLt; omega), Finset.sum_empty]

/-- The last hop: one copy, to the right, and the slot it brings. -/
theorem run_lastHop (c : Dev nD) {Q : Acc F → sProp 𝕄} :
    iprop(records m K ∗ levAts L lv ∗ carry m c 15) ⊢ iprop((ended m c -∗ Q (accEnd m c)) -∗ WP c (lastHop c (loaded m c) (accAt m c 14)) Q) := by
  unfold lastHop carry copyRight waitOn loadSlot
  simp only [Prog.bind_lift, Prog.pure_eq_ret]
  rw [todoR_step c 15 (by decide)]
  unfold rights accEnd
  have h15 : 15 < 32 := by decide
  have h16 : 16 < 32 := by decide
  have h17 : 17 < 32 := by decide
  have g15 : 15 < 16 := by decide
  have g31 : 15 < 31 := by decide
  iintro ⟨#HR, #HL, ⟨⟨Rs, Rv, Rps, Rpv, Rc⟩, TR⟩, TL, DR, DL, H, ZR, ZL, ⟨%W, HO⟩⟩ Hk
  ihave H1 := (fin_shares m c (held 15)).1 $$ H
  icases H1 with ⟨⟨HqR, HqL⟩, HqK⟩
  ihave H2 := (fin_take m c (held 15) 15 qR (slot_held (.inl le_rfl))).1 $$ HqR
  icases H2 with ⟨HsR, HqR⟩
  ihave H4 := (any_zoneR (F := F) (onRight c) 15 g15) $$ ZR
  icases H4 with ⟨HdR, ZR⟩
  rw [owed_last c]
  iapply (wp_copy m K c (onRight c) (right' c) (right'_eq c) 15 (15 + 1) h15 h16 (origin_right c g31)
    (sR ⟨15, g15⟩) (vR ⟨15, g15⟩) (rSend 15 g15) (rRecv 15 g15) (rSend_eq ⟨15, g15⟩) (rRecv_eq ⟨15, g15⟩)
    qR rfl rfl (owed c 16) W) $$ [HsR HdR HO Rs Rv]
  · isplitr; · iexact HR
    isplitl [HsR]; · iexact HsR
    isplitl [HdR]; · iexact HdR
    isplitl [HO]; · iexact HO
    isplitl [Rs]; · iexact Rs
    iexact Rv
  iintro ⟨Rcs, HO⟩
  iapply (wp_loadSlot m c 15 h15 (held 15) (slot_held (.inl le_rfl)) qK) $$ HqK
  iintro HqK
  iapply (wp_loadSlot m c 17 h17 (held 15) (slot_held (.inr le_rfl)) qK) $$ HqK
  iintro HqK
  iapply (wp_wait m K c 15 (vR ⟨15, g15⟩) le_rfl (rRecv 15 g15) (rRecv_eq ⟨15, g15⟩) 15 16 h15 h16 W) $$ [Rc HO Rpv]
  · isplitr; · iexact HR
    isplitr; · iexact HL
    isplitl [Rc]; · iexact Rc
    isplitl [HO]; · iexact HO
    iexact Rpv
  iintro ⟨HO, Rzv, PRv⟩
  iapply (wp_wait m K c 15 (sR ⟨15, g15⟩) (Nat.zero_le _) (rSend 15 g15) (rSend_eq ⟨15, g15⟩) 16 15 h16 h15 _) $$ [Rcs HO Rps]
  · isplitr; · iexact HR
    isplitr; · iexact HL
    isplitl [Rcs]; · iexact Rcs
    isplitl [HO]; · iexact HO
    iexact Rps
  iintro ⟨HO, Rzs, PRs⟩
  ihave H2 := (fin_take m c (held 15) 15 qR (slot_held (.inl le_rfl))).2 $$ [PRs HqR]
  · isplitl [PRs]; · unfold pay; iexact PRs
    iexact HqR
  ihave H4 := (fin_shares m c (held 15)).2 $$ [H2 HqL HqK]
  · isplitr [HqK]
    · isplitl [H2]; · iexact H2
      iexact HqL
    · iexact HqK
  ihave H5 := (fin_complete m c) $$ [H4 PRv]
  · isplitl [H4]; · iexact H4
    unfold pay; iexact PRv
  iapply (wp_loadSlot m c 16 h16 Finset.univ (Finset.subset_univ _) fullShare) $$ H5
  iintro H5
  rw [owed_end]
  iapply (WP_ret c _ Q)
  iapply Hk
  unfold ended
  rw [doneR_step c 15 (by decide)]
  isplitl [DR Rzs Rzv]
  · isplitr [DR]
    · isplitl [Rzs]; · iexact Rzs
      iexact Rzv
    · iexact DR
  isplitl [DL]; · iexact DL
  isplitl [H5]; · iexact H5
  iexists _; iexact HO

end Cert.Moe

end
-- ==== Proof.Ends.lean ====
/-
# The prologue and the epilogue

The barrier with both neighbours, which hands over the slots to fill; the device's own chunk put together in
slot 0; the result stored at the end.
-/
module

public import proofs.«01_k».proof.Proof.Ring

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## The barrier -/

/-- What the barrier uses up. -/
def barRights (c : Dev nD) : sProp 𝕄 :=
  iprop(dutyTok ER (bcell (onLeft c)) 0 true ∗ dutyTok ER (bcell (onRight c)) 0 false ∗ atPos ER (bcell c) 0 ∅ 0
    ∗ cred (tallyAt (bcell c) () 2))

/-- Each neighbour gets the slots it is to fill, and each gives. -/
theorem run_barrier (c : Dev nD) (W : Waits sig Unit) {α : Type} {Q : α → sProp 𝕄} {k : PUnit → Body F α} :
    iprop(records m K ∗ levAts L lv ∗ barRights c ∗ any c (zoneR 0) ∗ any c (zoneL 0) ∗ owes (c : Thread nD τ) (O₀ c) W)
      ⊢ iprop(((semVal (bcell c) 0 ∗ any (onRight c) (zoneR 0) ∗ any (onLeft c) (zoneL 0) ∗ ∃ W, owes (c : Thread nD τ) (owed c 0) W) -∗ WP c (k ⟨⟩) Q)
          -∗ WP c (barrier c >>= k) Q) := by
  unfold barrier barRights O₀
  simp only [semSignalWord, semWaitWord, Prog.lift, Prog.bind_op, Prog.bind_ret]
  iintro ⟨#HR, #HL, ⟨Ht, Hf, Hat, Hc⟩, ZR, ZL, HO⟩ Hk
  rw [dev1_eq c, dev2_eq c]
  iapply (Rounds.wp_signal 𝒱₀ ER (sched m) (c : Thread nD τ) none (dst := (onLeft c : Thread nD τ)) (κ := K (onLeft c, .inl ()))
      (d := true) (by rw [duties_bar]; exact Finset.mem_univ _) ((amount_bar m (onLeft c) true).trans (by decide)) () (O₁ c) rfl)
    $$ [HO Ht ZR]
  · isplitr; · iapply (inv_bar m K (onLeft c)); iexact HR
    isplitl [HO]; · iexact HO
    isplitl [Ht]; · iexact Ht
    isplitl [ZR]; · rw [payload_bar_true, right_left]; iexact ZR
    iapply (reached_bar m K (onLeft c)); iexact HR
  iintro HO
  unfold O₁
  iapply (Rounds.wp_signal 𝒱₀ ER (sched m) (c : Thread nD τ) none (dst := (onRight c : Thread nD τ)) (κ := K (onRight c, .inl ()))
      (d := false) (by rw [duties_bar]; exact Finset.mem_univ _) ((amount_bar m (onRight c) false).trans (by decide)) () (owed c 0) rfl)
    $$ [HO Hf ZL]
  · isplitr; · iapply (inv_bar m K (onRight c)); iexact HR
    isplitl [HO]; · iexact HO
    isplitl [Hf]; · iexact Hf
    isplitl [ZL]; · rw [payload_bar_false, left_right]; iexact ZL
    iapply (reached_bar m K (onRight c)); iexact HR
  iintro HO
  iapply (Rounds.wp_wait_rest_token 𝒱₀ ER (sched m) (c : Thread nD τ) none (κ := K (c, .inl ()))
      (wpE_semWait_eq 𝒱₀ (c : Thread nD τ) none Set.univ) (Set.mem_univ _) () (O := owed c 0) (W := W) (R := 0) (m := 0) (T := ∅)
      (by rw [expect_bar]; decide)) $$ [Hc HO Hat]
  · isplitr; · iapply (inv_bar m K c); iexact HR
    isplitl [Hc]; · iexact Hc
    isplitl [HO]; · iexact HO
    isplitr; · iapply (mayWait_bar c); iexact HL
    iexact Hat
  iintro ⟨HO, Hat, -, Hpay⟩
  ihave Hp := (Entails.of_eq (rest_bar m c)) $$ Hpay
  icases Hp with ⟨HL', HR'⟩
  imod (Rounds.cell_close ER (sched m) (Set.mem_univ (K (c, .inl ()))) (fun h => h) (R := 0 + 1) (duties_later m (bcell c))) $$ [Hat] with Hz
  · isplitr; · iapply (inv_bar m K c); iexact HR
    iexact Hat
  iapply Hk
  isplitl [Hz]; · iexact Hz
  isplitl [HR']; · iexact HR'
  isplitl [HL']; · iexact HL'
  iexists _; iexact HO

/-! ## The device's own chunk -/

theorem hz2 : (![0, 0] : Fin 2 → ℕ) = fun _ => 0 := funext fun a => by fin_cases a <;> rfl

/-- Any access within slot 0 touches only its elements. -/
theorem slot0_access (off size : Fin 3 → ℕ) (inb : ∀ a, off a + size a ≤ S32x264x256.size a) (h : off 0 + size 0 ≤ 1) :
    (sM.access (Rect.unit (s := S32x264x256) off size inb)).set ⊆ slotSet 0 := by
  rw [show (sM.access (Rect.unit (s := S32x264x256) off size inb)).set = (Rect.unit (s := S32x264x256) off size inb).set from
    View.set_slice_whole cc0_scratch0 _]
  intro i hi
  rw [Rect.mem_set_unit] at hi
  have := hi 0
  rw [mem_slotSet]; omega

/-- A load within slot 0. -/
theorem wp_load0 (c : Dev nD) (off size : Fin 3 → ℕ) (inb : ∀ a, off a + size a ≤ S32x264x256.size a) (h : off 0 + size 0 ≤ 1)
    (f : Buf (Elt F) (sLoc c)) {hl : sM.view.LoadsAt (Rect.unit (s := S32x264x256) off size inb).toLoadRect}
    {α : Type} {Q : α → sProp 𝕄} {k : ((Rect.unit (s := S32x264x256) off size inb).shape.Idx → Elt F .f32) → Body F α} :
    (sLoc c ↦[slotSet 0]{fullShare} f : sProp 𝕄)
      ⊢ iprop(((sLoc c ↦[slotSet 0]{fullShare} f) -∗ WP c (k ((sM.access (Rect.unit (s := S32x264x256) off size inb)).read (Elt F) f)) Q)
          -∗ WP c (.op (.load sM (Rect.unit (s := S32x264x256) off size inb).toLoadRect hl) k) Q) :=
  wp_load_rect 𝒱₀ (c : Thread nD τ) none Set.univ (m := sM) (r := Rect.unit (s := S32x264x256) off size inb) (S := slotSet 0) (q := fullShare)
    (f := f) (k := k) (slot0_access off size inb h)

/-- The staging buffers of the three operands hold them. -/
def operands (c : Dev nD) : sProp 𝕄 :=
  iprop(((c : Thread nD τ).loc cc0_stg0_0 ↦{fullShare} xIn m c) ∗ ((c : Thread nD τ).loc cc0_stg1_0 ↦{fullShare} rIn m c)
    ∗ ((c : Thread nD τ).loc cc0_stg2_0 ↦{fullShare} wIn m c))

/-- The chunk put together in slot 0. -/
theorem run_fill (c : Dev nD) {α : Type} {Q : α → sProp 𝕄} {k : Loaded F → Body F α} :
    iprop(operands m c ∗ any c (slotSet 0))
      ⊢ iprop(((operands m c ∗ fin m c (slotSet 0) fullShare) -∗ WP c (k (loaded m c)) Q) -∗ WP c (fill >>= k) Q) := by
  unfold operands fill any
  simp only [Prog.lift, Prog.bind_op, Prog.bind_ret, Prog.pure_eq_ret]
  iintro ⟨⟨Hx, Hr, Hw⟩, ⟨%f, Hs⟩⟩ Hk
  iapply (wp_load 𝒱₀ (c : Thread nD τ) none Set.univ (m := xM) (Finset.subset_univ _)) $$ Hx; iintro Hx
  iapply (wp_load 𝒱₀ (c : Thread nD τ) none Set.univ (m := rM) (Finset.subset_univ _)) $$ Hr; iintro Hr
  iapply (wp_load 𝒱₀ (c : Thread nD τ) none Set.univ (m := wM) (Finset.subset_univ _)) $$ Hw; iintro Hw
  iapply (wp_load0 c _ _ _ (by decide)) $$ Hs; iintro Hs
  iapply (wp_store_writes₀ 𝒱₀ (c : Thread nD τ) none Set.univ (m := sM) (slot0_access _ _ _ (by decide))) $$ Hs; iintro Hs
  iapply (wp_load 𝒱₀ (c : Thread nD τ) none Set.univ (m := wM) (Finset.subset_univ _)) $$ Hw; iintro Hw
  iapply (wp_load0 c _ _ _ (by decide)) $$ Hs; iintro Hs
  iapply (wp_store_writes 𝒱₀ (c : Thread nD τ) none Set.univ (m := sM) (slot0_access _ _ _ (by decide))) $$ Hs; iintro Hs
  iapply (wp_load0 c _ _ _ (by decide)) $$ Hs; iintro Hs
  iapply (wp_store_writes 𝒱₀ (c : Thread nD τ) none Set.univ (m := sM) (slot0_access _ _ _ (by decide))) $$ Hs; iintro Hs
  iapply (wp_load0 c _ _ _ (by decide)) $$ Hs; iintro Hs
  iapply (wp_store_writes 𝒱₀ (c : Thread nD τ) none Set.univ (m := sM) (slot0_access _ _ _ (by decide))) $$ Hs; iintro Hs
  rw [show (xM : Memref sig .tc .vmem S256x128 .f32).view.readAt (Elt F) (Rect.unit (s := S256x128) ![0, 0] S256x128.size inb_S256x128_S256x128_0_0).toLoadRect (xIn m c) = xIn m c
      from Memref.readAt_unit_zero (Elt F) cc0_stg0_0 hz2 _ _,
    show (rM : Memref sig .tc .vmem S256x1 .i32).view.readAt (Elt F) (Rect.unit (s := S256x1) ![0, 0] S256x1.size inb_S256x1_S256x1_0_0).toLoadRect (rIn m c) = rIn m c
      from Memref.readAt_unit_zero (Elt F) cc0_stg1_0 hz2 _ _]
  iapply Hk
  isplitl [Hx Hr Hw]
  · isplitl [Hx]; · iexact Hx
    isplitl [Hr]; · iexact Hr
    iexact Hw
  · unfold fin
    iapply (Entails.of_eq (pointsTo_congr (q := fullShare) fun i hi => fills_final m c f i hi))
    iexact Hs

/-! ## The result stored -/

/-- What device `c` computes. -/
def outAt (c : Dev nD) : Vec F S256x256 .f32 := result (loaded m c).p (accEnd m c)

theorem run_finish (c : Dev nD) (a : Acc F) {Q : PUnit → sProp 𝕄} (f : Buf (Elt F) ((c : Thread nD τ).loc cc0_stg3_0)) :
    ((c : Thread nD τ).loc cc0_stg3_0 ↦{fullShare} f : sProp 𝕄)
      ⊢ iprop((((c : Thread nD τ).loc cc0_stg3_0 ↦{fullShare} result (loaded m c).p a) -∗ Q ⟨⟩) -∗ WP c (finish (loaded m c) a) Q) := by
  unfold finish
  simp only [Prog.lift, Prog.bind_op, Prog.bind_ret]
  iintro Ho Hk
  iapply (wp_load 𝒱₀ (c : Thread nD τ) none Set.univ (m := oM) (Finset.subset_univ _)) $$ Ho; iintro Ho
  iapply (wp_store 𝒱₀ (c : Thread nD τ) none Set.univ (m := oM) (r := Rect.unit (s := S256x256) ![0, 0] S256x256.size inb_S256x256_S256x256_0_0)
    (Mk := Finset.univ) (Finset.subset_univ _)) $$ Ho; iintro Ho
  iapply (WP_ret c _ Q)
  iapply Hk
  rw [show ((oM : Memref sig .tc .vmem S256x256 .f32).access (Rect.unit (s := S256x256) ![0, 0] S256x256.size inb_S256x256_S256x256_0_0) : View sig .tc _ _ _).write (Elt F) f (result (loaded m c).p a) Finset.univ
      = result (loaded m c).p a from Memref.write_access_unit_zero_univ (Elt F) cc0_stg3_0 hz2 _ f _]
  iexact Ho

end Cert.Moe

end
-- ==== Proof.Body.lean ====
/-
# The body of a device

From what the launch gives a device, through the barrier, the filling of slot 0 and the hops, to the result
stored and every cell at rest.
-/
module

public import proofs.«01_k».proof.Proof.Ends

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (K : Dev nD × CK → ℕ)

/-! ## What the launch gives a device -/

/-- The device's places at its own cells. -/
def places (c : Dev nD) : sProp 𝕄 := bigSep Finset.univ fun k : CK => atPos ER (kcell (c, k)) 0 ∅ 0

/-- The duties that the device pays: at its own send cells, at the receive cells and the barrier cells of its neighbours. -/
def payToks (c : Dev nD) : sProp 𝕄 :=
  iprop((dutyTok ER (bcell (onLeft c)) 0 true ∗ dutyTok ER (bcell (onRight c)) 0 false)
    ∗ ((bigSep Finset.univ fun h : Fin 16 => dutyTok ER (xcell c (sR h)) 0 false)
      ∗ (bigSep Finset.univ fun h : Fin 16 => dutyTok ER (xcell (onRight c) (vR h)) 0 false))
    ∗ ((bigSep Finset.univ fun h : Fin 15 => dutyTok ER (xcell c (sL h)) 0 false)
      ∗ (bigSep Finset.univ fun h : Fin 15 => dutyTok ER (xcell (onLeft c) (vL h)) 0 false)))

/-- The credit for what its own barrier and receive cells are to get. -/
def creds (c : Dev nD) : sProp 𝕄 :=
  iprop(cred (tallyAt (bcell c) () 2) ∗ (bigSep Finset.univ fun h : Fin 16 => cred (tallyAt (xcell c (vR h)) () N))
    ∗ (bigSep Finset.univ fun h : Fin 15 => cred (tallyAt (xcell c (vL h)) () N)))

/-- What is held for every cell of two families is what is held for each family. -/
theorem bigSep_families {A B : Type} [Fintype A] [Fintype B] (Φ : A ⊕ B → sProp 𝕄) :
    bigSep Finset.univ Φ = iprop((bigSep Finset.univ fun a => Φ (.inl a)) ∗ (bigSep Finset.univ fun b => Φ (.inr b))) :=
  bigSep_univ_sum Φ

/-- Sorted by hop, these are the rights of all copies and of the barrier. -/
theorem rights_intro (c : Dev nD) : iprop(places c ∗ payToks c ∗ creds c) ⊢ (iprop(barRights c ∗ todoR c 0 ∗ todoL c 0) : sProp 𝕄) := by
  unfold places payToks creds barRights todoR todoL rights
  rw [from_all, from_all, bigSep_families, bigSep_families, bigSep_families, bigSep_families]
  simp only [bigSep_sep']
  iintro ⟨⟨Hb, ⟨HsR, HvR⟩, ⟨HsL, HvL⟩⟩, ⟨⟨Tt, Tf⟩, ⟨TsR, TvR⟩, ⟨TsL, TvL⟩⟩, Cb, CR, CL⟩
  ihave Hb := (Entails.of_eq (show (bigSep Finset.univ fun a : Unit => (atPos ER (kcell (c, Sum.inl a)) 0 ∅ 0 : sProp 𝕄))
    = atPos ER (bcell c) 0 ∅ 0 from bigSep_singleton)) $$ Hb
  isplitl [Hb Tt Tf Cb]
  · isplitl [Tt]; · iexact Tt
    isplitl [Tf]; · iexact Tf
    isplitl [Hb]; · iexact Hb
    iexact Cb
  isplitl [HsR HvR TsR TvR CR]
  · isplitl [TsR]; · iexact TsR
    isplitl [TvR]; · iexact TvR
    isplitl [HsR]; · iexact HsR
    isplitl [HvR]; · iexact HvR
    iexact CR
  · isplitl [TsL]; · iexact TsL
    isplitl [TvL]; · iexact TvL
    isplitl [HsL]; · iexact HsL
    isplitl [HvL]; · iexact HvL
    iexact CL

/-- What the global step of the launch leaves each device. -/
def dealt (c : Dev nD) : sProp 𝕄 := iprop(∃ K, records m K ∗ places c ∗ payToks c)

/-- What the body starts from, the scratch apart. -/
def start (c : Dev nD) : sProp 𝕄 := iprop(dealt m c ∗ creds c ∗ levAts L lv)

def Φ₀ (c : Dev nD) : sProp 𝕄 := iprop(start m c ∗ any c Finset.univ)
/-- At the end: every cell at rest, the scratch whole. -/
def Φ₁ (c : Dev nD) : sProp 𝕄 := iprop(doneR c 16 ∗ doneL c 15 ∗ fin m c Finset.univ fullShare ∗ semVal (bcell c) 0)

/-- The proof data of the region: the three operands stay, the result is `outAt`. -/
def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => rIn m c
    | ⟨2, _⟩ => wIn m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The run of the body -/

/-- From the operands in their staging buffers to the result in its own. -/
theorem run_body (c : Dev nD) (W : Waits sig Unit) (f : Buf (Elt F) ((c : Thread nD τ).loc cc0_stg3_0)) (Q : PUnit → sProp 𝕄) :
    iprop(Φ₀ m c ∗ owes (c : Thread nD τ) (O₀ c) W ∗ operands m c ∗ ((c : Thread nD τ).loc cc0_stg3_0 ↦{fullShare} f))
      ⊢ iprop(((Φ₁ m c ∗ (∃ W, owes (c : Thread nD τ) 0 W) ∗ operands m c ∗ ((c : Thread nD τ).loc cc0_stg3_0 ↦{fullShare} outAt m c)) -∗ Q ⟨⟩)
          -∗ WP c body Q) := by
  unfold body Φ₀ start dealt
  simp only [Prog.lift, Prog.bind_op, Prog.bind_ret, wp_deviceId]
  iintro ⟨⟨⟨⟨%K, #HR, Hp, Ht⟩, Hc, #HL⟩, Hs⟩, HO, Hx, Hf⟩ Hk
  ihave Hrt := (rights_intro (F := F) c) $$ [Hp Ht Hc]
  · isplitl [Hp]; · iexact Hp
    isplitl [Ht]; · iexact Ht
    iexact Hc
  icases Hrt with ⟨HB, TR, TL⟩
  rw [zones]
  ihave Hs := (any_union (F := F) c _ _ zones_disj) $$ Hs
  icases Hs with ⟨Hs, ZL⟩
  ihave Hs := (any_union (F := F) c _ _ zones_disj') $$ Hs
  icases Hs with ⟨Hs, ZR⟩
  iapply (run_barrier m K c W) $$ [HB ZR ZL HO]
  · isplitr; · iexact HR
    isplitr; · iexact HL
    isplitl [HB]; · iexact HB
    isplitl [ZR]; · iexact ZR
    isplitl [ZL]; · iexact ZL
    iexact HO
  iintro ⟨Hbar, ZR, ZL, HO⟩
  iapply (run_fill m c) $$ [Hx Hs]
  · isplitl [Hx]; · iexact Hx
    iexact Hs
  iintro ⟨Hx, Hs⟩
  rw [WP_bind]
  have h14 : 14 < 15 := by decide
  iapply (run_hops m K c 14 h14 _) $$ [TR TL ZR ZL HO Hs]
  · isplitr; · iexact HR
    isplitr; · iexact HL
    unfold carry doneR doneL
    rw [before_none, before_none, bigSep_empty, bigSep_empty, held_zero]
    isplitl [TR]; · iexact TR
    isplitl [TL]; · iexact TL
    isplitr; · iempintro
    isplitr; · iempintro
    isplitl [Hs]; · iexact Hs
    isplitl [ZR]; · iexact ZR
    isplitl [ZL]; · iexact ZL
    iexact HO
  iintro HC
  rw [WP_bind]
  iapply (run_lastHop m K c) $$ [HC]
  · isplitr; · iexact HR
    isplitr; · iexact HL
    iexact HC
  unfold ended
  iintro ⟨DR, DL, Hs, HO⟩
  iapply (run_finish m c (accEnd m c) f) $$ Hf
  iintro Hf
  iapply Hk
  unfold Φ₁ outAt
  isplitl [DR DL Hs Hbar]
  · isplitl [DR]; · iexact DR
    isplitl [DL]; · iexact DL
    isplitl [Hs]; · iexact Hs
    iexact Hbar
  isplitl [HO]; · iexact HO
  isplitl [Hx]; · iexact Hx
  iexact Hf

end Cert.Moe

end
-- ==== Proof.Launch.lean ====
/-
# The launch

The cells' invariants are set up on all devices at once, the duties are dealt to the devices that pay them, and the
credit for what each device is to get comes from what its neighbours owe.
-/
module

public import proofs.«01_k».proof.Proof.Body

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

abbrev osem (k : XK) : SemLoc sig := .dma (xsem k)

/-- The copies' semaphores are the kernel's, are distinct, and no staging transfer uses them. -/
theorem ownSemFacts : Pipeline.OwnSemFacts cfg0.spec osem where
  isScoped k := by rcases k with (h | h) | (h | h) <;> (fin_cases h <;> decide)
  inj a b h := xsem_injective (SemLoc.dma.inj h)
  disj k w s h := by
    have h1 : (xsem k).val = ((cfg0.spec w).sem s).val := congrArg Fin.val (SemLoc.dma.inj h)
    have h2 := four_le_xsem k
    have h3 : ((cfg0.spec w).sem s).val < 4 := by fin_cases w <;> fin_cases s <;> decide
    omega

theorem share_eq (c : Dev nD) (w : Fin cfg0.W) : (dats m 0 c).share w = fullShare := by unfold Dat.share; split <;> rfl

/-- The barrier semaphore is the one semaphore outside the region. -/
theorem unscopedSems0_eq (c : Dev nD) : (unscopedSems0 c : sProp 𝕄) = semVal (bcell c) 0 := by
  unfold unscopedSems0; rw [bigSep_eq_bigSepL_of_eq [SemLoc.reg barSem] (by decide +kernel) (by decide)]; rfl

/-! ## Cells and duties -/

theorem kcell_injective : Function.Injective (kcell : Dev nD × CK → GSem nD τ sig) := by
  rintro ⟨c, k⟩ ⟨c', k'⟩ h
  have h1 : c = c' := congrArg (fun g : GSem nD τ sig => g.1.1) h
  have h2 : k = k' := ksem_injective (congrArg Prod.snd h)
  rw [h1, h2]

def allCells : Finset (GSem nD τ sig) := Finset.univ.map ⟨kcell, kcell_injective⟩

/-- The duties at a device's cells: two at the barrier cell, one at each copy cell. -/
abbrev DK : Type := Bool ⊕ XK
abbrev tokOf (x : Dev nD × DK) : GSem nD τ sig × ℕ × Bool := match x.2 with
  | .inl b => (bcell x.1, 0, b)
  | .inr k => (xcell x.1 k, 0, false)

theorem tokOf_injective : Function.Injective (tokOf : Dev nD × DK → GSem nD τ sig × ℕ × Bool) := by
  rintro ⟨c, b | k⟩ ⟨c', b' | k'⟩ h
  · have h1 : c = c' := congrArg (fun x : GSem nD τ sig × ℕ × Bool => x.1.1.1) h
    have h2 : b = b' := congrArg (fun x : GSem nD τ sig × ℕ × Bool => x.2.2) h
    rw [h1, h2]
  · exact absurd (congrArg (fun x : GSem nD τ sig × ℕ × Bool => x.1.2) h) (by simp)
  · exact absurd (congrArg (fun x : GSem nD τ sig × ℕ × Bool => x.1.2) h) (by simp)
  · have h1 : c = c' := congrArg (fun x : GSem nD τ sig × ℕ × Bool => x.1.1.1) h
    have h2 : k = k' := xsem_injective (SemLoc.dma.inj (congrArg (fun x : GSem nD τ sig × ℕ × Bool => x.1.2) h))
    rw [h1, h2]

def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-- The duties at a device's own cells. -/
def ownToks (c : Dev nD) : sProp 𝕄 :=
  iprop((dutyTok ER (bcell c) 0 true ∗ dutyTok ER (bcell c) 0 false)
    ∗ ((bigSep Finset.univ fun h : Fin 16 => dutyTok ER (xcell c (sR h)) 0 false)
      ∗ (bigSep Finset.univ fun h : Fin 16 => dutyTok ER (xcell c (vR h)) 0 false))
    ∗ ((bigSep Finset.univ fun h : Fin 15 => dutyTok ER (xcell c (sL h)) 0 false)
      ∗ (bigSep Finset.univ fun h : Fin 15 => dutyTok ER (xcell c (vL h)) 0 false)))

/-- What each device starts the set-up with. -/
def G (c : Dev nD) : sProp 𝕄 :=
  iprop((bigSep Finset.univ fun k : CK => roundState ER (sched m) (kcell (c, k)) 0)
    ∗ places c ∗ (bigSep Finset.univ fun k : CK => reached ER (kcell (c, k)) 0) ∗ ownToks c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    refine bigSep_congr fun c _ => ?_
    unfold ownToks
    rw [bigSep_families, bigSep_families, bigSep_families, bigSep_families,
      bigSep_univ_eq_bigSepL [true, false] (by decide) (by decide), bigSepL_cons_cons, bigSepL_singleton]
    rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G places; simp only [bigSep_sep']
  isplitl [Hst]; · iexact Hst
  isplitl [Hat]; · iexact Hat
  isplitl [Hr]; · iexact Hr
  iexact Htok

/-- All counters of a device, its own semaphores' and the barrier's. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_families]
  unfold Pipeline.ownSems0
  iintro ⟨H, HB⟩
  isplitl [HB]
  · iapply (Entails.of_eq (show semVal (bcell c) 0 = (bigSep Finset.univ fun a : Unit => (semVal (kcell (c, Sum.inl a)) 0 : sProp 𝕄)) from
      bigSep_singleton.symm))
    iexact HB
  iexact H

/-- One device's cells become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ places c ∗ (bigSep Finset.univ fun k : CK => reached ER (kcell (c, k)) 0) ∗ ownToks c) := by
  unfold G
  iintro ⟨Hos, Hus, Hst, Hrest⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  iexact Hrest

/-- The duties dealt around the ring: those at the receive and barrier cells go to the neighbour that pays them. -/
theorem toks_around : (bigSep Finset.univ fun c : Dev nD => (ownToks c : sProp 𝕄)) ⊢ bigSep Finset.univ fun c : Dev nD => payToks c := by
  unfold ownToks payToks
  simp only [bigSep_sep']
  rw [bigSep_univ_equiv ring (fun c : Dev nD => (dutyTok ER (bcell c) 0 false : sProp 𝕄)),
    bigSep_univ_equiv ring.symm (fun c : Dev nD => (dutyTok ER (bcell c) 0 true : sProp 𝕄)),
    bigSep_univ_equiv ring (fun c : Dev nD => (bigSep Finset.univ fun h : Fin 16 => dutyTok ER (xcell c (vR h)) 0 false : sProp 𝕄)),
    bigSep_univ_equiv ring.symm (fun c : Dev nD => (bigSep Finset.univ fun h : Fin 15 => dutyTok ER (xcell c (vL h)) 0 false : sProp 𝕄))]
  iintro H
  iexact H

/-- A persistent fact goes to every member. -/
theorem deal_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  have h1 : iprop(R ∗ bigSep S Φ) ⊢ iprop((bigSep S fun _ => R) ∗ bigSep S Φ) := sep_mono_left (BI.bigSep_of_persistent S R)
  rw [← bigSep_sep'] at h1
  exact h1.trans (bigSep_mono h)

theorem regroup :
    (bigSep Finset.univ fun c : Dev nD => iprop((bigSep Finset.univ fun k => iprop(∃ κ : ℕ, cellInv ER (sched m) κ (kcell (c, k))))
          ∗ places c ∗ (bigSep Finset.univ fun k : CK => reached ER (kcell (c, k)) 0) ∗ ownToks c) : sProp 𝕄)
      ⊢ bigSep Finset.univ (dealt m) := by
  simp only [bigSep_sep']
  rw [← bigSep_univ_prod (fun ck : Dev nD × CK => iprop(∃ κ : ℕ, cellInv ER (sched m) κ (kcell ck))),
    ← bigSep_univ_prod (fun ck : Dev nD × CK => (reached ER (kcell ck) 0 : sProp 𝕄))]
  iintro ⟨HI, Hat, #HR, Htok⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  iapply (deal_with (R := records m K) (Φ := fun c => iprop(places c ∗ payToks c)) fun c _ => show _ ⊢ dealt m c from by
    unfold dealt; iintro H; iexists K; iexact H)
  isplitr
  · unfold records; isplitl; · iexact HI
    iexact HR
  · rw [bigSep_sep']
    isplitl [Hat]; · iexact Hat
    iexact Htk

/-- The set-up of all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (dealt m) :=
  ((bigSep_mono fun c _ => core_alloc m c).trans (bigSep_fupd _ _)).trans (BI.fupd_mono (regroup m))

/-! ## The credit -/

/-- What the neighbours owe a device at launch is the credit it waits with. -/
theorem creds_intro (c : Dev nD) : (Pipeline.launchCred O₀ c : sProp 𝕄) ⊢ creds c := by
  have e : (O₀ : Dev nD → CellTallies nD τ sig Unit)
      = fun d => (((∑ h ∈ Finset.univ, tallyAt (xcell (onLeft d) (vL h)) () N) + (∑ h ∈ Finset.univ, tallyAt (xcell (onRight d) (vR h)) () N))
          + tallyAt (bcell (onRight d)) () 1) + tallyAt (bcell (onLeft d)) () 1 := by
    funext d; unfold O₀ O₁ owed owedL owedR; rw [from_all, from_all]
  rw [e, Pipeline.launchCred_add, Pipeline.launchCred_add, Pipeline.launchCred_add, Pipeline.launchCred_sum, Pipeline.launchCred_sum]
  have hR (k : XK) : (Pipeline.launchCred (fun d : Dev nD => tallyAt (xcell (onRight d) k) () N) c : sProp 𝕄) ⊢ cred (tallyAt (xcell c k) () N) :=
    Pipeline.launchCred_tallyAt (.dma (xsem k)) onRight onLeft right_left left_right () N c
  have hL (k : XK) : (Pipeline.launchCred (fun d : Dev nD => tallyAt (xcell (onLeft d) k) () N) c : sProp 𝕄) ⊢ cred (tallyAt (xcell c k) () N) :=
    Pipeline.launchCred_tallyAt (.dma (xsem k)) onLeft onRight left_right right_left () N c
  unfold creds
  iintro ⟨⟨⟨HL, HR⟩, H1⟩, H2⟩
  ihave H1 := (Pipeline.launchCred_tallyAt (.reg barSem) onRight onLeft right_left left_right () 1 c) $$ H1
  ihave H2 := (Pipeline.launchCred_tallyAt (.reg barSem) onLeft onRight left_right right_left () 1 c) $$ H2
  isplitl [H1 H2]
  · iapply (show iprop(cred (tallyAt (bcell c) () 1) ∗ cred (tallyAt (bcell c) () 1)) ⊢ (cred (tallyAt (bcell c) () 2) : sProp 𝕄) from by
      have h := (cred_add (nD := nD) (τ := τ) (sig := sig) (Ix := Unit) (Val := Elt F) (Name := ℕ) (U := UU) (Lvl := ℕ) (tallyAt (bcell c) () 1) (tallyAt (bcell c) () 1)).2
      rwa [tallyAt_add] at h)
    isplitl [H1] <;> iassumption
  isplitl [HR]
  · iapply (show (bigSep Finset.univ fun h : Fin 16 => (Pipeline.launchCred (fun d : Dev nD => tallyAt (xcell (onRight d) (vR h)) () N) c : sProp 𝕄))
      ⊢ bigSep Finset.univ fun h : Fin 16 => cred (tallyAt (xcell c (vR h)) () N) from bigSep_mono fun h _ => hR (vR h))
    iexact HR
  · iapply (show (bigSep Finset.univ fun h : Fin 15 => (Pipeline.launchCred (fun d : Dev nD => tallyAt (xcell (onLeft d) (vL h)) () N) c : sProp 𝕄))
      ⊢ bigSep Finset.univ fun h : Fin 15 => cred (tallyAt (xcell c (vL h)) () N) from bigSep_mono fun h _ => hL (vL h))
    iexact HL

/-! ## The region's entry and exit -/

/-- The buffers that the kernel does not touch. -/
def untouched (c : Dev nD) : sProp 𝕄 :=
  Pipeline.unscopedRestP Pipeline.Prefetch.none cfg0.spec c (fun b => m ((c : Thread nD τ).loc b))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(start m c ∗ untouched m c) := by
  iintro ⟨Hu, Hlev, Hcr, -, HG⟩
  ihave Hc := (creds_intro (F := F) c) $$ Hcr
  imodintro
  unfold start untouched
  isplitr [Hu]
  · isplitl [HG]; · iexact HG
    isplitl [Hc]; · iexact Hc
    iexact Hlev
  · iexact Hu

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ any
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, unscopedSems0_eq]
  unfold Φ₁ doneR doneL fin Pipeline.ownSems0
  rw [before_all, before_all, bigSep_families, bigSep_families, bigSep_families]
  simp only [bigSep_sep']
  iintro ⟨⟨DsR, DvR⟩, ⟨DsL, DvL⟩, Hr, HzB⟩
  isplitl [HzB]; · iexact HzB
  isplitr [Hr]
  · isplitl [DsR DvR]
    · isplitl [DsR]; · iexact DsR
      iexact DvR
    · isplitl [DsL]; · iexact DsL
      iexact DvL
  iexists (final m c); iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

end Cert.Moe

end
-- ==== Proof.BodyEq.lean ====
/-
# The printed body is the short program

The printed operations and those of `Program` are the same, in the same order, with the same values.
-/
module

public import proofs.«01_k».proof.Proof.Program

@[expose] public section

noncomputable section

namespace Cert.Moe

open Cert.KernelIdeal Cert.KernelIdeal.Gen
open Idealize.ShloMosaic Idealize.SL.Sem

variable {F : FTy → Type} [FloatOps F]

/-- Programs that start with the same operation and go on alike are the same. -/
theorem op_congr {E : Type → Type} {α β : Type} {e : E α} {k k' : α → Prog E β} (h : ∀ x, k x = k' x) :
    Prog.op e k = Prog.op e k' := congrArg (Prog.op e) (funext h)

/-- Stores of equal values are the same. -/
theorem store_congr {v v' : Vec F S256x256 .f32} (h : v = v') :
    (Prog.lift (.store oM (Rect.unit (s := S256x256) ![0, 0] S256x256.size inb_S256x256_S256x256_0_0) v Finset.univ
      (View.stores_vmem_bits_univ h_S256x256 rfl) (.inl rfl)) : Body F PUnit)
    = Prog.lift (.store oM (Rect.unit (s := S256x256) ![0, 0] S256x256.size inb_S256x256_S256x256_0_0) v' Finset.univ
      (View.stores_vmem_bits_univ h_S256x256 rfl) (.inl rfl)) := by rw [h]

/-- The result from the product and the counts. -/
theorem result_congr {p a2 : FVec F S256x1 .f32} {a1 : FVec F S256x256 .f32} {a : Acc F} (h1 : a1 = a.1) (h2 : a2 = a.2) :
    result p (a1, a2) = result p a := by rw [h1, h2]

set_option maxRecDepth 65536 in
set_option maxHeartbeats 16000000 in
/-- The printed body is that program. -/
theorem body_eq (h0 : xM.IsWhole) (h1 : rM.IsWhole) (h2 : wM.IsWhole) (h3 : oM.IsWhole) (h4 : sM.IsWhole) :
    cc0_body (F := F) xM h0 rM h1 wM h2 oM h3 sM h4 cc0_scratch1 cc0_scratch2 cc0_scratch3 cc0_scratch4 = body := by
  iterate 142 refine op_congr fun x => ?_
  refine store_congr ?_
  refine result_congr ?_ ?_
  · iterate 32 refine congrArg₂ addf ?_ rfl
    rfl
  · iterate 31 refine congrArg₂ addf ?_ rfl
    rfl

end Cert.Moe

end
-- ==== Proof.Run.lean ====
/-
# The run

On every device the region leaves the operands as they were and the result array at `outAt`; every counter of the
machine ends at zero.
-/
module

public import proofs.«01_k».proof.Proof.Launch
public import proofs.«01_k».proof.Proof.BodyEq
public import Idealize.ShloMosaic.Lib.Quiescent
public import Idealize.ShloMosaic.Lib.Pipeline.CollectiveSegs

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

/-- Owning a whole buffer at stated contents. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer at stated contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-! ## Operands

Each operand is in its staging buffer, whole, before the body. -/

theorem x_before (c : Dev nD) (d) : (dats m 0 c).before (0 : Fin 4) t0_0 d = xIn m c := by
  unfold Dat.before
  rw [if_pos (fetch0_0 t0_0)]
  have hz : (fun a => (win0_0.index (0 : Fin 1)) a * main_arg0.ty.shape.size a) = fun _ => 0 := funext fun a => by fin_cases a <;> decide
  have hr := Memref.read_access_unit_zero (Elt F) main_arg0 hz (fun a => by fin_cases a <;> decide) (xIn m c)
  unfold Dat.fetched Dat.blockOf
  exact hr

theorem r_before (c : Dev nD) (d) : (dats m 0 c).before (1 : Fin 4) t0_0 d = rIn m c := by
  unfold Dat.before
  rw [if_pos (fetch0_1 t0_0)]
  have hz : (fun a => (win0_1.index (0 : Fin 1)) a * main_arg2.ty.shape.size a) = fun _ => 0 := funext fun a => by fin_cases a <;> decide
  have hr := Memref.read_access_unit_zero (Elt F) main_arg2 hz (fun a => by fin_cases a <;> decide) (rIn m c)
  unfold Dat.fetched Dat.blockOf
  exact hr

theorem w_before (c : Dev nD) (d) : (dats m 0 c).before (2 : Fin 4) t0_0 d = wIn m c := by
  unfold Dat.before
  rw [if_pos (fetch0_2 t0_0)]
  have hz : (fun a => (win0_2.index (0 : Fin 1)) a * main_arg3.ty.shape.size a) = fun _ => 0 := funext fun a => by fin_cases a <;> decide
  have hr := Memref.read_access_unit_zero (Elt F) main_arg3 hz (fun a => by fin_cases a <;> decide) (wIn m c)
  unfold Dat.fetched Dat.blockOf
  exact hr

set_option maxRecDepth 65536 in
/-- The body meets what the region asks of it. -/
theorem body_obligation (c : Dev nD) : BodyObligation (dats (F := F) m 0 c) (defs₀ (F := F)) 𝒱₀ () Set.univ := fun t => by
  rw [fin_N0 t, bigSep_W0, bigSep_W0]
  simp only [owns_whole]
  show iprop(Φ₀ m c ∗ (dats m 0 c).owesAt () t0_0.castSucc
      ∗ (∃ d, stg c cc0_stg0_0 ((dats m 0 c).before (0 : Fin 4) t0_0 d))
      ∗ (∃ d, stg c cc0_stg1_0 ((dats m 0 c).before (1 : Fin 4) t0_0 d))
      ∗ (∃ d, stg c cc0_stg2_0 ((dats m 0 c).before (2 : Fin 4) t0_0 d))
      ∗ (∃ d, stg c cc0_stg3_0 ((dats m 0 c).before (3 : Fin 4) t0_0 d)))
    ⊢ WP c (cc0_body xM (Memref.isWhole_whole _) rM (Memref.isWhole_whole _) wM (Memref.isWhole_whole _) oM (Memref.isWhole_whole _)
        sM (Memref.isWhole_whole _) cc0_scratch1 cc0_scratch2 cc0_scratch3 cc0_scratch4)
      (fun _ => iprop(Φ₁ m c ∗ (dats m 0 c).owesAt () t0_0.succ
        ∗ stg c cc0_stg0_0 (xIn m c) ∗ stg c cc0_stg1_0 (rIn m c) ∗ stg c cc0_stg2_0 (wIn m c) ∗ stg c cc0_stg3_0 (outAt m c)))
  rw [body_eq]
  unfold Dat.owesAt Pipeline.owesWithin
  rw [show (dats m 0 c).owed t0_0.castSucc = O₀ c from rfl, show (dats m 0 c).owed t0_0.succ = 0 from rfl]
  iintro ⟨HΦ, ⟨%W, %hW, HO⟩, ⟨%d0, %f0, %h0, H0⟩, ⟨%d1, %f1, %h1, H1⟩, ⟨%d2, %f2, %h2, H2⟩, ⟨%d3, %f3, %h3, H3⟩⟩
  rw [x_before] at h0; rw [r_before] at h1; rw [w_before] at h2
  subst h0; subst h1; subst h2
  iapply (run_body m c W f3 _) $$ [HΦ HO H0 H1 H2 H3]
  · isplitl [HΦ]; · iexact HΦ
    isplitl [HO]; · iexact HO
    isplitr [H3]
    · unfold operands
      isplitl [H0]; · iexact H0
      isplitl [H1]; · iexact H1
      iexact H2
    · iexact H3
  unfold operands
  iintro ⟨HΦ, ⟨%W', HO⟩, ⟨H0, H1, H2⟩, H3⟩
  isplitl [HΦ]; · iexact HΦ
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  · iexists _; isplitr; · (ipureintro; rfl)
    iexact H3

/-! ## The run -/

/-- The four arguments of device `c` are as they were. -/
def Unchanged (c : Dev nD) (r : MemSt nD τ sig (Elt F)) : Prop :=
  r.mem ((c.tc : Thread nD τ).loc main_arg0) = m ((c.tc : Thread nD τ).loc main_arg0)
    ∧ r.mem ((c.tc : Thread nD τ).loc main_arg1) = m ((c.tc : Thread nD τ).loc main_arg1)
    ∧ r.mem ((c.tc : Thread nD τ).loc main_arg2) = m ((c.tc : Thread nD τ).loc main_arg2)
    ∧ r.mem ((c.tc : Thread nD τ).loc main_arg3) = m ((c.tc : Thread nD τ).loc main_arg3)

/-- What a run of the whole machine leaves on device `c`: the result, and the arguments as they were. -/
def Leaves (c : Dev nD) (r : MemSt nD τ sig (Elt F)) : Prop :=
  r.mem ((c.tc : Thread nD τ).loc main_v1) = outAt m c ∧ Unchanged m c r

/-- The result array after the region is what the body stored. -/
theorem result_array (c : Dev nD) : (dats m 0 c).arrAt (3 : Fin 4) cfg0.N = outAt m c := by
  have hz : (fun a => (win0_3.index (0 : Fin 1)) a * main_v1.ty.shape.size a) = fun _ => 0 := funext fun a => by fin_cases a <;> decide
  have hr := Memref.read_access_unit_zero (Elt F) main_v1 hz (fun a => by fin_cases a <;> decide) ((dats m 0 c).arrAt (3 : Fin 4) cfg0.N)
  refine hr.symm.trans ?_
  rw [show cfg0.N = ((0 : Fin 1) : Fin cfg0.N).val + 1 from rfl, (dats m 0 c).arrAt_succ (3 : Fin 4) (0 : Fin 1)]
  rw [show (cfg0.win (3 : Fin 4)).flush (0 : Fin 1) = true from flush0_3 _, if_pos rfl]
  exact View.read_write_univ _ _

set_option maxRecDepth 8000 in
/-- From any memory with all counters at zero, every run of the machine ends, each device is left as `Leaves` says, and
    all counters are at zero again. -/
theorem run_main : θ_run defs (onTc (τ := τ) (main (F := F))) ⟨m, fun _ => 0, ρ⟩ (fun r => (∀ c, Leaves m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := O₀) (howed₀ := fun _ => rfl) (howedN := fun _ => rfl)
    (L := L) (lv := lv) (hL := L_of_ne) (hwaits := waits m)
    (G := G m) (G' := dealt m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := untouched m)
    (hX := start_intro m ρ) (hin := phi0_intro m) (hout := phi1_exit m)
    (QY := fun c s => (∀ sm : SemLoc sig, sm.isScoped .tc = false → s.sem ((c.tc : Thread nD τ), sm) = 0)
      ∧ ∀ b ∈ Pipeline.restRefsP sig Pipeline.Prefetch.none cfg0.spec, s.mem ((c.tc : Thread nD τ).loc b) = m ((c.tc : Thread nD τ).loc b))
    (hY := fun c s' => by
      iintro ⟨Hu, Hz, HSI⟩
      imod (Pipeline.unscopedSems0_read (X := unscopedSems0 c) (c := c) fupd_intro s') $$ [Hu HSI] with ⟨%h, HSI⟩
      · isplitl [Hu] <;> iassumption
      unfold untouched Pipeline.unscopedRestP
      ihave H := (pointsTo_read_all (Pipeline.restRefsP sig Pipeline.Prefetch.none cfg0.spec)
        (fun b => (c.tc : Thread nD τ).loc b) (fun b => m ((c.tc : Thread nD τ).loc b)) s') $$ [Hz HSI]
      · isplitl [Hz] <;> iassumption
      icases H with ⟨%h', HSI⟩
      imodintro
      isplitr; · ipureintro; exact ⟨h, h'⟩
      iexact HSI)
    (hQ := fun r h hs => ⟨fun c => ⟨((h c).1 (3 : Fin 4)).trans (result_array m c),
        ((h c).1 (0 : Fin 4)).trans ((dats m 0 c).arrAt_in (0 : Fin 4) rfl _),
        (h c).2.2.2 main_arg1 (by simp only [Pipeline.restRefsP]; exact by decide),
        ((h c).1 (1 : Fin 4)).trans ((dats m 0 c).arrAt_in (1 : Fin 4) rfl _),
        ((h c).1 (2 : Fin 4)).trans ((dats m 0 c).arrAt_in (2 : Fin 4) rfl _)⟩,
      sem_eq_zero hs fun c => (h c).2.2.1⟩)

/-- The same run, of which only the arguments and the counters are said. -/
theorem run_frame : θ_run defs (onTc (τ := τ) (main (F := F))) ⟨m, fun _ => 0, ρ⟩ (fun r => (∀ c, Unchanged m c r.2) ∧ r.2.sem = fun _ => 0) :=
  (θ_run defs _ _).mono (fun _ h => ⟨fun c => (h.1 c).2, h.2⟩) (run_main m ρ)

end Cert.Moe

end
-- ==== Proof.Spec.lean ====
/-
# The layer, in closed form

Eight thousand tokens, sixty-four experts, a hundred and two places with each expert, given out in the order of the
tokens. A token is kept when its expert exists and fewer than a hundred and two earlier tokens go to the same expert;
a token kept is multiplied by its expert's matrix, the others give zeros. Both programs compute this.
-/
module

public import Idealize.ShloMosaic.Lib.Pointwise

@[expose] public section

noncomputable section

namespace Cert.Moe

open Idealize.ShloMosaic

/-- How many earlier tokens go to the expert of token `t`. -/
def rank (e : Fin 8192 → BitVec 32) (t : Fin 8192) : ℕ := (Finset.univ.filter fun t' => e t = e t' ∧ t' < t).card

/-- Token `t` is kept. -/
def Kept (e : Fin 8192 → BitVec 32) (t : Fin 8192) : Prop := (e t).toNat < 64 ∧ rank e t < 102

instance (e : Fin 8192 → BitVec 32) (t : Fin 8192) : Decidable (Kept e t) := inferInstanceAs (Decidable (_ ∧ _))

/-- The expert that a word names, of the sixty-four. -/
def expertOf (w : BitVec 32) : Fin 64 := ⟨min w.toNat 63, by omega⟩

/-- The layer. -/
def layer (x : FVec Ideal ⟨2, ![8192, 128]⟩ .f32) (e : IVec ⟨2, ![8192, 1]⟩ 32) (W : FVec Ideal ⟨3, ![64, 128, 256]⟩ .f32)
    (t : Fin 8192) (k : Fin 256) : EReal :=
  if Kept (fun t => e (ix2 t 0)) t then ∑ i : Fin 128, x (ix2 t i) * W (ix3 (expertOf (e (ix2 t 0))) i k) else 0

end Cert.Moe

end
-- ==== Proof.RefValue.lean ====
/-
# The reference's value

The reference's composed term, read at a token and a column, is the layer of `Spec`.
-/
module

public import proofs.«01_k».proof.Proof.Spec
public import proofs.«01_k».proof.Proof.Gen.ReferenceIdeal
public import proofs.«01_k».proof.Proof.Gen.ReferenceIdeal.Run
public import Idealize.ShloMosaic.Lib.StableHlo.Predicate

@[expose] public section

set_option maxRecDepth 16384

noncomputable section

namespace Cert.Moe

open Cert.ReferenceIdeal Cert.ReferenceIdeal.Gen
open Idealize.ShloMosaic
open Idealize.ShloMosaic.StableHlo.Predicate

/-! ## The gather -/

/-- Rows of a stack of matrices taken at a column of positions: with the positions in range, position `t` reads the matrix
    that its word names. -/
theorem gather_matrix {α : Type} (W : S64x128x256.Idx → α) (p : IVec S8192x1 32) (t : Fin 8192) (i : Fin 128) (k : Fin 256)
    (h : (p (ix2 t 0)).toNat < 64) :
    Host.gather gather_S64x128x256_S8192x1_S8192x128x256_12_0_n_n_0_1_1128256 W p (ix3 t i k)
      = W (ix3 (expertOf (p (ix2 t 0))) i k) := by
  unfold Host.gather
  refine congrArg W (funext fun a => Fin.ext ?_)
  have hs : ∀ c, (gather_S64x128x256_S8192x1_S8192x128x256_12_0_n_n_0_1_1128256).siIdx (ix3 t i k) c = ix2 t 0 := by
    intro c
    funext b
    apply Fin.ext
    match b with
    | ⟨0, _⟩ => rfl
    | ⟨1, _⟩ =>
      have : c.val < 1 := c.isLt
      show c.val = 0
      omega
  match a with
  | ⟨0, _⟩ =>
    show min (p (GatherDims.siIdx _ _ _)).toInt.toNat (64 - 1) + 0 + 0 = min (p (ix2 t 0)).toNat 63
    rw [hs, toInt_eq_toNat_of_lt (by omega)]
    rfl
  | ⟨1, _⟩ => show 0 + 0 + i.val = i.val; omega
  | ⟨2, _⟩ => show 0 + 0 + k.val = k.val; omega

/-! ## The mask -/

/-- The pairs of a token and an earlier one with the same expert. -/
def earlier (r : IVec S8192 32) : IVec S8192x8192 1 :=
  andi (cmpi .eq (broadcastInDim S8192x8192 ![0, 1] bcast_S8192x1_S8192x8192_0_1 (broadcastInDim S8192x1 ![0] bcast_S8192_S8192x1_0 r))
      (broadcastInDim S8192x8192 ![0, 1] bcast_S1x8192_S8192x8192_0_1 (broadcastInDim S1x8192 ![1] bcast_S8192_S1x8192_1 r)))
    (cmpi .slt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

/-- How many earlier tokens each token finds with its expert. -/
def counts (r : IVec S8192 32) : IVec S8192 32 :=
  Host.reduce IntOp.addi (extui 32 (earlier r) natLt_1_32) (constantI S_ 32 0#32) reducesTo_S8192x8192_S8192_d1 h_S_

/-- The tokens kept. -/
def keeps (r : IVec S8192 32) : IVec S8192 1 :=
  andi (andi (cmpi .sge r (broadcastInDim S8192 ![] bcast_S_S8192 (constantI S_ 32 0#32)))
      (cmpi .slt r (broadcastInDim S8192 ![] bcast_S_S8192 (constantI S_ 32 64#32))))
    (cmpi .slt (counts r) (broadcastInDim S8192 ![] bcast_S_S8192 (constantI S_ 32 102#32)))

/-- Two bits both set. -/
theorem andi_bit (a b : BitVec 1) : IntOp.andi a b = 1#1 ↔ a = 1#1 ∧ b = 1#1 := by
  revert a b; decide

/-- A pair is marked when the experts agree and the second token is the earlier. -/
theorem earlier_at (r : IVec S8192 32) (t t' : Fin 8192) :
    earlier r (ij t t') = 1#1 ↔ r (Shape.Idx.ofFin t) = r (Shape.Idx.ofFin t') ∧ t' < t := by
  have ht := t.isLt
  have ht' := t'.isLt
  refine (andi_bit _ _).trans (and_congr ?_ ?_)
  · refine cmpi_eq_iff.trans ?_
    rw [bcast_rows, bcast_cols]
  · show IntOp.cmpi .slt _ _ = 1#1 ↔ _
    rw [bcast_rows, bcast_cols, StableHlo.Predicate.iota_apply, StableHlo.Predicate.iota_apply]
    refine (slt_iff_toNat ?_ ?_).trans ?_
    · rw [BitVec.toNat_ofNat]; omega
    · rw [BitVec.toNat_ofNat]; omega
    · rw [BitVec.toNat_ofNat, BitVec.toNat_ofNat, Fin.lt_def]; omega

/-- The counts are the ranks. -/
theorem counts_at (r : IVec S8192 32) (t : Fin 8192) :
    (counts r (Shape.Idx.ofFin t)).toNat = rank (fun t => r (Shape.Idx.ofFin t)) t := by
  refine (toNat_reduce_count_cols (n := 8192) (m := 8192) (by decide) (earlier r) natLt_1_32 reducesTo_S8192x8192_S8192_d1 h_S_ _).trans ?_
  unfold rank
  exact congrArg Finset.card (Finset.filter_congr fun t' _ => earlier_at r t t')

/-- A word is between 0 and 63, read signed, when it is below 64. -/
theorem expert_exists (w : BitVec 32) : (IntOp.cmpi .sge w 0#32 = 1#1 ∧ IntOp.cmpi .slt w 64#32 = 1#1) ↔ w.toNat < 64 := by
  by_cases h : w.toNat < 2 ^ 31
  · rw [sge_iff_toNat h (by decide), slt_iff_toNat h (by decide)]
    simp
  · have : ¬ IntOp.cmpi .sge w 0#32 = 1#1 := by
      show ¬ BitVec.ofBool (BitVec.sle 0#32 w) = 1#1
      rw [ofBool_eq_one_iff]
      have : w.toInt < 0 := by rw [BitVec.toInt_eq_toNat_cond]; split <;> omega
      simp only [BitVec.sle, decide_eq_true_eq, not_le]
      simpa using this
    constructor
    · exact fun h' => absurd h'.1 this
    · intro; omega

/-- The bits kept are the tokens kept. -/
theorem keeps_at (r : IVec S8192 32) (t : Fin 8192) :
    keeps r (Shape.Idx.ofFin t) = 1#1 ↔ Kept (fun t => r (Shape.Idx.ofFin t)) t := by
  have hle : rank (fun t => r (Shape.Idx.ofFin t)) t ≤ 8192 := (Finset.card_le_univ _).trans (by simp)
  refine (andi_bit _ _).trans (and_congr ?_ ?_)
  · refine (andi_bit _ _).trans ?_
    show IntOp.cmpi .sge _ _ = 1#1 ∧ IntOp.cmpi .slt _ _ = 1#1 ↔ _
    rw [bcast_scalar _ h_S_, bcast_scalar _ h_S_]
    exact expert_exists _
  · show IntOp.cmpi .slt _ _ = 1#1 ↔ _
    rw [bcast_scalar _ h_S_]
    refine (slt_iff_toNat ?_ (by decide)).trans ?_
    · rw [counts_at]; omega
    · rw [counts_at]; rfl

/-! ## The whole -/

/-- The routed experts as a flat vector. -/
def flat (e : IVec S8192x1 32) : IVec S8192 32 := shapeCast S8192 e shapeCasts_S8192x1_S8192

theorem flat_at (e : IVec S8192x1 32) (t : Fin 8192) : flat e (Shape.Idx.ofFin t) = e (ix2 t 0) := by
  show shapeCast S8192 e shapeCasts_S8192x1_S8192 (ix1 t) = _
  pointwise

/-- The reference's result of its arguments. -/
def refOut (x : FVec Ideal S8192x128 .f32) (e : IVec S8192x1 32) (W : FVec Ideal S64x128x256 .f32) : FVec Ideal S8192x256 .f32 :=
  select (broadcastInDim S8192x256 ![0, 1] bcast_S8192x1_S8192x256_0_1 (broadcastInDim S8192x1 ![0] bcast_S8192_S8192x1_0 (keeps (flat e))))
    (Host.dotGeneral dot_S8192x128_S8192x128x256_S8192x256_1_1_n_2_0_0 none x
      (Host.gather gather_S64x128x256_S8192x1_S8192x128x256_12_0_n_n_0_1_1128256 W (broadcastInDim S8192x1 ![0] bcast_S8192_S8192x1_0 (flat e))))
    (broadcastInDim S8192x256 ![] bcast_S_S8192x256 (id (constant S_ .f32 0x00000000#32)))

/-- A product of every token with its own matrix, read at a token and a column. -/
theorem dot_at (x : FVec Ideal S8192x128 .f32) (G : FVec Ideal S8192x128x256 .f32) (t : Fin 8192) (k : Fin 256) :
    Host.dotGeneral dot_S8192x128_S8192x128x256_S8192x256_1_1_n_2_0_0 none x G (ix2 t k) = ∑ i : Fin 128, x (ix2 t i) * G (ix3 t i k) := by
  pointwise

/-- The index of an entry of a column. -/
theorem col_idx (t : Fin 8192) : (ix2 t 0 : S8192x1.Idx) = ixP t := by
  funext a
  match a with
  | ⟨0, _⟩ => rfl
  | ⟨1, _⟩ => rfl

/-- **The reference computes the layer.** -/
theorem refOut_at (x : FVec Ideal S8192x128 .f32) (e : IVec S8192x1 32) (W : FVec Ideal S64x128x256 .f32) (t : Fin 8192) (k : Fin 256) :
    refOut x e W (ix2 t k) = layer x e W t k := by
  have hk := keeps_at (flat e) t
  simp only [flat_at] at hk
  have hb : broadcastInDim S8192x256 ![0, 1] bcast_S8192x1_S8192x256_0_1 (broadcastInDim S8192x1 ![0] bcast_S8192_S8192x1_0 (keeps (flat e))) (ix2 t k)
      = keeps (flat e) (Shape.Idx.ofFin t) := bcast_rows (n := 8192) (m := 256) _ _ _ t k
  have hp : broadcastInDim S8192x1 ![0] bcast_S8192_S8192x1_0 (flat e) (ix2 t 0) = e (ix2 t 0) :=
    (congrArg _ (col_idx t)).trans ((bcast_col1 (n := 8192) bcast_S8192_S8192x1_0 (flat e) t).trans (flat_at e t))
  unfold refOut layer
  show (if _ = 1#1 then _ else _) = _
  rw [hb]
  by_cases h : Kept (fun t => e (ix2 t 0)) t
  · rw [if_pos (hk.mpr h), if_pos h, dot_at]
    refine Finset.sum_congr rfl fun i _ => ?_
    rw [gather_matrix W _ t i k (by rw [hp]; exact h.1), hp]
  · rw [if_neg fun h' => h (hk.mp h'), if_neg h]
    pointwise [id]

end Cert.Moe

end
-- ==== Proof.Reads.lean ====
/-
# The kernel's values read at an index

The one-hot matrix of the experts, the counts in a chunk, the local count, the two products of a slot and its prior
count, each at an index, with the floats read as extended reals. An indicator is 1 or 0.
-/
module

public import proofs.«01_k».proof.Proof.Ring
public import Idealize.ShloMosaic.Lib.Pointwise
public import Idealize.ShloMosaic.Lib.StableHlo.Predicate

@[expose] public section

set_option maxRecDepth 16384

noncomputable section

namespace Cert.Moe

open Cert.KernelIdeal Cert.KernelIdeal.Gen
open Idealize.ShloMosaic Idealize.ShloMosaic.TcCoe
open Idealize.ShloMosaic.StableHlo.Predicate (cmpi_eq_iff slt_iff_toNat sge_iff_toNat ofBool_eq_one_iff)

/-- The indicator of a proposition. -/
def ind (p : Prop) [Decidable p] : EReal := if p then 1 else 0

theorem ind_congr {p q : Prop} [Decidable p] [Decidable q] (h : p ↔ q) : ind p = ind q := by
  unfold ind
  by_cases hp : p
  · rw [if_pos hp, if_pos (h.mp hp)]
  · rw [if_neg hp, if_neg fun hq => hp (h.mpr hq)]

/-- A bit widened, as an extended real, is an indicator. -/
theorem toInt_bit (b : BitVec 1) : (((BitVec.setWidth 32 b).toInt : ℝ) : EReal) = ind (b = 1#1) := by
  unfold ind
  rcases (by revert b; decide : b = 0#1 ∨ b = 1#1) with rfl | rfl
  · rw [if_neg (by decide), show (BitVec.setWidth 32 0#1).toInt = 0 by decide]; simp
  · rw [if_pos rfl, show (BitVec.setWidth 32 1#1).toInt = 1 by decide]; simp

theorem sitofp_bit (b : BitVec 1) : (FloatOps.sitofp .f32 (BitVec.setWidth 32 b) : Ideal .f32) = ind (b = 1#1) := toInt_bit b

/-- The capacity. -/
theorem ofBits_capacity : Ideal.ofBits .f32 0x42CC0000#32 = ((102 : ℕ) : EReal) := by
  rw [show (((102 : ℕ) : EReal)) = ((102 : ℝ) : EReal) by norm_cast]
  simp [Ideal.ofBits, Ideal.ieee, -EReal.coe_mul]; norm_num

/-- The one-hot matrix. -/
theorem oneHot_at (r : Vec Ideal S256x1 .i32) (t : Fin 256) (g : Fin 64) :
    k0_pay4 (F := Ideal) r (ix2 t g) = ind (r (ix2 t 0) = BitVec.ofNat 32 g.val) := by
  unfold k0_pay4 k0_pay3
  pointwise
  exact (sitofp_bit _).trans (ind_congr cmpi_eq_iff)

/-- The counts of a chunk. -/
theorem counts_row_at (q : FVec Ideal S256x64 .f32) (g : Fin 64) :
    k0_pay8 q (ix3 0 0 g) = ∑ t : Fin 256, q (ix2 t g) := by
  unfold k0_pay8
  pointwise

/-- The local count: the earlier tokens of the device with the same row of the one-hot matrix. -/
theorem local_at (q : FVec Ideal S256x64 .f32) (t : Fin 256) :
    k0_pay9 q (ix2 t 0) = ∑ t' : Fin 256, (∑ g : Fin 64, q (ix2 t g) * q (ix2 t' g)) * ind (t' < t) := by
  unfold k0_pay9
  pointwise
  refine Finset.sum_congr rfl fun t' _ => congrArg _ ((sitofp_bit _).trans (ind_congr ?_))
  have ht := t.isLt
  have ht' := t'.isLt
  refine (slt_iff_toNat ?_ ?_).trans ?_
  · rw [BitVec.toNat_ofNat]; omega
  · rw [BitVec.toNat_ofNat]; omega
  · rw [BitVec.toNat_ofNat, BitVec.toNat_ofNat, Fin.lt_def]; omega

/-- The result: the product where the two counts stay below the capacity. -/
theorem result_at (p : FVec Ideal S256x1 .f32) (a : Acc Ideal) (t k : Fin 256) :
    result p a (ix2 t k) = a.1 (ix2 t k) * ind (a.2 (ix2 t 0) + p (ix2 t 0) < ((102 : ℕ) : EReal)) := by
  unfold result
  pointwise
  rw [ofBits_capacity]
  exact congrArg _ ((sitofp_bit _).trans (ind_congr ((ofBool_eq_one_iff _).trans decide_eq_true_iff)))

/-- A 0/1 column. -/
theorem routed_at (r : IVec S256x1 32) (e : BitVec 32) (t : Fin 256) :
    routedTo (F := Ideal) r e (ix2 t 0) = ind (r (ix2 t 0) = e) := by
  unfold routedTo
  pointwise
  exact (sitofp_bit _).trans (ind_congr cmpi_eq_iff)

/-- The two products of a slot. -/
theorem product_at (v2 : BitVec 32) (x : FVec Ideal S256x128 .f32) (r : IVec S256x1 32) (j : ℕ) (g : Vec Ideal S1x264x256 .f32) (t k : Fin 256) :
    slotProduct v2 x r j g (ix2 t k)
      = (∑ i : Fin 128, x (ix2 t i) * ind (r (ix2 t 0) = firstExpert v2 j) * g (ix3 0 ⟨i.val, by omega⟩ k))
        + ∑ i : Fin 128, x (ix2 t i) * ind (r (ix2 t 0) = Scalar.addi (firstExpert v2 j) 1#32) * g (ix3 0 ⟨128 + i.val, by omega⟩ k) := by
  unfold slotProduct
  pointwise
  simp only [routed_at]

/-- The prior count of a slot. -/
theorem prior_at (v2 : BitVec 32) (q : FVec Ideal S256x64 .f32) (j : ℕ) (g : Vec Ideal S1x264x256 .f32) (t : Fin 256) :
    slotPrior v2 q j g (ix2 t 0)
      = (∑ e : Fin 64, q (ix2 t e) * g (ix3 0 256 ⟨e.val, by omega⟩)) * ind (Scalar.cmpi .sge v2 (BitVec.ofNat 32 j) = 1#1) := by
  unfold slotPrior
  pointwise
  exact congrArg _ (toInt_bit _)

end Cert.Moe

end
-- ==== Proof.KernelValue.lean ====
/-
# What a device computes

The result of device `c` at token `t` and column `k`, in terms of the arguments of all the devices: the token times its
expert's matrix if the expert exists and fewer than a hundred and two tokens precede it, on the earlier devices or on this
one, with the same expert; zero otherwise.
-/
module

public import proofs.«01_k».proof.Proof.Ends
public import proofs.«01_k».proof.Proof.Reads

@[expose] public section

set_option maxRecDepth 16384

noncomputable section

namespace Cert.Moe

open Cert.KernelIdeal Cert.KernelIdeal.Gen
open Idealize.ShloMosaic Idealize.ShloMosaic.TcCoe
open Idealize.ShloMosaic.StableHlo.Predicate (sge_iff_toNat)

/-! ## Words -/

theorem me_eq (c : Dev nD) : me c = BitVec.ofNat 32 c.val := by revert c; decide

/-- The first expert of a slot is the first expert of the device that the slot's chunk comes from. -/
theorem firstExpert_eq (c : Dev nD) (j : Fin 32) : firstExpert (me c) j.val = BitVec.ofNat 32 (2 * (origin c j.val).val) := by
  revert c j; decide

/-- A slot counts for the devices that it reaches without passing the start. -/
theorem counted_iff (c : Dev nD) (j : ℕ) (hj : j < 32) : Scalar.cmpi .sge (me c) (BitVec.ofNat 32 j) = 1#1 ↔ j ≤ c.val := by
  have hc : c.val < 32 := c.isLt
  rw [me_eq]
  refine (sge_iff_toNat ?_ ?_).trans ?_
  · rw [BitVec.toNat_ofNat]; omega
  · rw [BitVec.toNat_ofNat]; omega
  · rw [BitVec.toNat_ofNat, BitVec.toNat_ofNat]; omega

/-! ## Sums of indicators -/

/-- A sum of indicators is a count. -/
theorem sum_ind {n : ℕ} (p : Fin n → Prop) [DecidablePred p] : ∑ t, ind (p t) = ((Finset.univ.filter p).card : EReal) := by
  rw [Finset.card_filter, Nat.cast_sum]
  refine Finset.sum_congr rfl fun t _ => ?_
  unfold ind
  split <;> simp

/-- An indicator factor decides about a whole sum of products. -/
theorem sum_mul_ind {n : ℕ} (p : Prop) [Decidable p] (f g : Fin n → EReal) :
    ∑ i, f i * ind p * g i = if p then ∑ i, f i * g i else 0 := by
  unfold ind
  split
  · simp only [mul_one]
  · simp

/-- A word is at most one of the sixty-four numbers. -/
theorem word_iff (w : BitVec 32) (g : Fin 64) : w = BitVec.ofNat 32 g.val ↔ w.toNat = g.val := by
  have := g.isLt
  constructor
  · rintro rfl; rw [BitVec.toNat_ofNat]; omega
  · intro h; rw [← h]; simp

/-- Against the row of an existing expert, a sum over the experts is one term. -/
theorem sum_row (w : BitVec 32) (hw : w.toNat < 64) (f : Fin 64 → EReal) :
    ∑ g : Fin 64, ind (w = BitVec.ofNat 32 g.val) * f g = f ⟨w.toNat, hw⟩ := by
  rw [Finset.sum_eq_single ⟨w.toNat, hw⟩]
  · unfold ind; rw [if_pos ((word_iff _ _).mpr rfl), one_mul]
  · intro g _ hg
    unfold ind
    rw [if_neg fun h => hg (Fin.ext ((word_iff _ _).mp h).symm), zero_mul]
  · intro h; exact absurd (Finset.mem_univ _) h

/-! ## Sums over the slots -/

/-- The order in which the slots are worked in doesn't matter. -/
theorem sum_order {M : Type} [AddCommMonoid M] (P : ℕ → M) :
    (∑ j ∈ Finset.range 15, P j + ∑ j ∈ Finset.range 14, P (32 - (j + 1))) + P 15 + P 17 + P 16 = ∑ j ∈ Finset.range 32, P j := by
  simp only [Finset.sum_range_succ, Finset.sum_range_zero, zero_add, Nat.reduceAdd, Nat.reduceSub]
  abel

/-- Going to the left twice by what is left between. -/
theorem origin_invol (c j : Dev nD) : origin c (origin c j.val).val = j := by
  apply Fin.ext
  have hc : c.val < 32 := c.isLt
  have hj : j.val < 32 := j.isLt
  simp only [origin]
  omega

/-- The slots hold the chunks of all the devices, one each. -/
theorem sum_slots {M : Type} [AddCommMonoid M] (c : Dev nD) (f : Dev nD → M) :
    ∑ j ∈ Finset.range 32, f (origin c j) = ∑ d, f d := by
  rw [Finset.sum_range]
  exact Equiv.sum_comp (Function.Involutive.toPerm (fun j : Dev nD => origin c j.val) (origin_invol c)) f

/-- A slot other than the first comes from an earlier device when it is reached without passing the start. -/
theorem origin_lt (c : Dev nD) (j : ℕ) (hj : j < 32) : (j ≠ 0 ∧ j ≤ c.val) ↔ origin c j < c := by
  have hc : c.val < 32 := c.isLt
  rw [Fin.lt_def]
  simp only [origin]
  omega

section Values

variable (m : (ℓ : Loc nD τ sig) → Buf (Elt Ideal) ℓ)

/-- The expert of token `t` of device `c`. -/
def tok (c : Dev nD) (t : Fin 256) : BitVec 32 := rIn m c (ix2 t 0)

/-- How many tokens of device `d` go to expert `w`. -/
def onDevice (d : Dev nD) (w : BitVec 32) : ℕ := (Finset.univ.filter fun t' => w = tok m d t').card

/-- How many tokens of the device precede token `t` with the same expert. -/
def onOwn (c : Dev nD) (t : Fin 256) : ℕ := (Finset.univ.filter fun t' => tok m c t = tok m c t' ∧ t' < t).card

/-- How many tokens precede token `t` of device `c` with the same expert. -/
def before (c : Dev nD) (t : Fin 256) : ℕ := (∑ d, if d < c then onDevice m d (tok m c t) else 0) + onOwn m c t

/-! ## The chunk of a slot -/

theorem w0_at (c : Dev nD) (i : Fin 128) (k : Fin 256) : k0_pay5 (w0In m c) (ix3 0 i k) = wIn m c (ix3 0 i k) := by
  have h : k0_pay5 (w0In m c) (ix3 0 i k) = w0In m c (ix3 0 i k) := by unfold k0_pay5; pointwise
  rw [h]
  refine congrArg (wIn m c) (funext fun a => Fin.ext ?_)
  match a with
  | ⟨0, _⟩ => rfl
  | ⟨1, _⟩ => show 0 + 1 * i.val = i.val; omega
  | ⟨2, _⟩ => show 0 + 1 * k.val = k.val; omega

theorem w1_at (c : Dev nD) (i : Fin 128) (k : Fin 256) : k0_pay6 (w1In m c) (ix3 0 i k) = wIn m c (ix3 1 i k) := by
  have h : k0_pay6 (w1In m c) (ix3 0 i k) = w1In m c (ix3 0 i k) := by unfold k0_pay6; pointwise
  rw [h]
  refine congrArg (wIn m c) (funext fun a => Fin.ext ?_)
  match a with
  | ⟨0, _⟩ => rfl
  | ⟨1, _⟩ => show 0 + 1 * i.val = i.val; omega
  | ⟨2, _⟩ => show 0 + 1 * k.val = k.val; omega

/-- The first expert of a slot. -/
theorem slot_w0 (c : Dev nD) (j : ℕ) (i : Fin 128) (k : Fin 256) (h : i.val < 264) :
    slotVal m c j (ix3 0 ⟨i.val, h⟩ k) = wIn m (origin c j) (ix3 0 i k) := by
  refine Eq.trans ?_ (w0_at m (origin c j) i k)
  show chunkAt _ _ _ (⟨i.val, h⟩ : Fin 264) k = _
  unfold chunkAt
  exact dif_pos i.isLt

/-- The second. -/
theorem slot_w1 (c : Dev nD) (j : ℕ) (i : Fin 128) (k : Fin 256) (h : 128 + i.val < 264) :
    slotVal m c j (ix3 0 ⟨128 + i.val, h⟩ k) = wIn m (origin c j) (ix3 1 i k) := by
  refine Eq.trans ?_ (w1_at m (origin c j) i k)
  show chunkAt _ _ _ (⟨128 + i.val, h⟩ : Fin 264) k = _
  unfold chunkAt
  rw [dif_neg (by show ¬ (128 + i.val < 128); omega), dif_pos (by show 128 + i.val < 256; have := i.isLt; omega)]
  exact congrArg _ (congrArg (fun a => ix3 0 a k) (Fin.ext (show 128 + i.val - 128 = i.val by omega)))

/-- The counts. -/
theorem slot_counts (c : Dev nD) (j : ℕ) (g : Fin 64) (h : g.val < 256) :
    slotVal m c j (ix3 0 256 ⟨g.val, h⟩) = (onDevice m (origin c j) (BitVec.ofNat 32 g.val) : EReal) := by
  refine Eq.trans (b := k0_pay8 (k0_pay4 (F := Ideal) (rIn m (origin c j))) (ix3 0 0 g)) ?_ ?_
  · show chunkAt _ _ _ (256 : Fin 264) (⟨g.val, h⟩ : Fin 256) = _
    unfold chunkAt
    rw [dif_neg (by decide), dif_neg (by decide), dif_pos ⟨rfl, g.isLt⟩]
    rfl
  · rw [counts_row_at]
    simp only [oneHot_at]
    refine (sum_ind _).trans ?_
    unfold onDevice tok
    simp only [eq_comm]

/-! ## The operands as loaded -/

theorem loaded_x (c : Dev nD) (t : Fin 256) (i : Fin 128) : (loaded m c).x (ix2 t i) = xIn m c (ix2 t i) := by
  show k0_pay2 (xIn m c) (ix2 t i) = _
  unfold k0_pay2
  pointwise

theorem loaded_r (c : Dev nD) (t : Fin 256) : (loaded m c).r (ix2 t 0) = tok m c t := by
  show k0_pay3 (F := Ideal) (rIn m c) (ix2 t 0) = _
  unfold k0_pay3 tok
  pointwise

theorem loaded_q (c : Dev nD) (t : Fin 256) (g : Fin 64) : (loaded m c).q (ix2 t g) = ind (tok m c t = BitVec.ofNat 32 g.val) :=
  oneHot_at (rIn m c) t g

/-- The local count. -/
theorem loaded_p (c : Dev nD) (t : Fin 256) (hw : (tok m c t).toNat < 64) : (loaded m c).p (ix2 t 0) = (onOwn m c t : EReal) := by
  refine (local_at _ t).trans ?_
  simp only [oneHot_at]
  refine (Finset.sum_congr rfl fun t' _ => ?_).trans (sum_ind fun t' => tok m c t = tok m c t' ∧ t' < t)
  refine (congrArg (· * ind (t' < t)) (sum_row (tok m c t) hw fun g => ind (rIn m c (ix2 t' 0) = BitVec.ofNat 32 g.val))).trans ?_
  show ind (tok m c t' = BitVec.ofNat 32 (tok m c t).toNat) * ind (t' < t) = _
  rw [BitVec.ofNat_toNat, BitVec.setWidth_eq]
  unfold ind
  by_cases h1 : tok m c t = tok m c t' <;> by_cases h2 : t' < t <;> simp [h1, h2, eq_comm]

/-! ## A slot's share -/

/-- The product of the token with the experts of device `d`, where it goes to one of them. -/
def share (c : Dev nD) (t k : Fin 256) (d : Dev nD) : EReal :=
  (if (tok m c t).toNat = 2 * d.val then ∑ i : Fin 128, xIn m c (ix2 t i) * wIn m d (ix3 0 i k) else 0)
    + (if (tok m c t).toNat = 2 * d.val + 1 then ∑ i : Fin 128, xIn m c (ix2 t i) * wIn m d (ix3 1 i k) else 0)

theorem slot_product (c : Dev nD) (j : ℕ) (hj : j < 32) (t k : Fin 256) :
    slotProduct (me c) (loaded m c).x (loaded m c).r j (slotVal m c j) (ix2 t k) = share m c t k (origin c j) := by
  have ho : (origin c j).val < 32 := (origin c j).isLt
  rw [product_at]
  simp only [loaded_x, loaded_r, slot_w0, slot_w1, sum_mul_ind, firstExpert_eq c ⟨j, hj⟩]
  unfold share
  have e0 := word_iff (tok m c t) ⟨2 * (origin c j).val, by omega⟩
  have e1 := word_iff (tok m c t) ⟨2 * (origin c j).val + 1, by omega⟩
  have a1 : Scalar.addi (BitVec.ofNat 32 (2 * (origin c j).val)) 1#32 = BitVec.ofNat 32 (2 * (origin c j).val + 1) :=
    (BitVec.ofNat_add ..).symm
  rw [a1]
  simp only [e0, e1]

theorem slot_prior (c : Dev nD) (j : ℕ) (hj : j < 32) (h0 : j ≠ 0) (t : Fin 256) (hw : (tok m c t).toNat < 64) :
    slotPrior (me c) (loaded m c).q j (slotVal m c j) (ix2 t 0)
      = ((if origin c j < c then onDevice m (origin c j) (tok m c t) else 0 : ℕ) : EReal) := by
  rw [prior_at]
  simp only [loaded_q, slot_counts]
  rw [sum_row _ hw]
  show ((onDevice m (origin c j) (BitVec.ofNat 32 (tok m c t).toNat) : ℕ) : EReal) * _ = _
  rw [BitVec.ofNat_toNat, BitVec.setWidth_eq]
  rw [ind_congr ((counted_iff c j hj).trans (Iff.trans ⟨fun h => ⟨h0, h⟩, fun h => h.2⟩ (origin_lt c j hj)))]
  unfold ind
  split <;> simp

/-! ## All the slots -/

theorem accAt_fst (c : Dev nD) (t k : Fin 256) (P : ℕ → EReal)
    (hP : ∀ j, slotProduct (me c) (loaded m c).x (loaded m c).r j (slotVal m c j) (ix2 t k) = P j) (n : ℕ) :
    (accAt m c n).1 (ix2 t k) = ∑ j ∈ Finset.range (n + 1), P j + ∑ j ∈ Finset.range n, P (32 - (j + 1)) := by
  induction n with
  | zero =>
    show k0_pay10 (F := Ideal) (ix2 t k) + slotProduct _ _ _ 0 _ (ix2 t k) = _
    rw [hP]
    unfold k0_pay10
    pointwise
    simp
  | succ n ih =>
    show (accAt m c n).1 (ix2 t k) + slotProduct _ _ _ (n + 1) _ (ix2 t k) + slotProduct _ _ _ (32 - (n + 1)) _ (ix2 t k) = _
    rw [hP, hP, ih, Finset.sum_range_succ P (n + 1), Finset.sum_range_succ (fun j => P (32 - (j + 1))) n, add_assoc (_ + _),
      add_add_add_comm]

theorem accAt_snd (c : Dev nD) (t : Fin 256) (P : ℕ → EReal)
    (hP : ∀ j, slotPrior (me c) (loaded m c).q j (slotVal m c j) (ix2 t 0) = P j) (n : ℕ) :
    (accAt m c n).2 (ix2 t 0) = ∑ j ∈ Finset.range (n + 1), (if j = 0 then 0 else P j)
      + ∑ j ∈ Finset.range n, P (32 - (j + 1)) := by
  induction n with
  | zero =>
    show k0_pay14 (F := Ideal) k0_pay11 _ (ix2 t 0) = _
    unfold k0_pay14 k0_pay11
    pointwise
    simp
  | succ n ih =>
    show (accAt m c n).2 (ix2 t 0) + slotPrior _ _ (n + 1) _ (ix2 t 0) + slotPrior _ _ (32 - (n + 1)) _ (ix2 t 0) = _
    rw [hP, hP, ih, Finset.sum_range_succ _ (n + 1), Finset.sum_range_succ (fun j => P (32 - (j + 1))) n, if_neg (Nat.succ_ne_zero n),
      add_assoc (_ + _), add_add_add_comm]

/-- The product: the shares of all the devices. -/
theorem accEnd_fst (c : Dev nD) (t k : Fin 256) : (accEnd m c).1 (ix2 t k) = ∑ d, share m c t k d := by
  rw [← sum_slots c (share m c t k)]
  refine Eq.trans ?_ (Finset.sum_congr rfl fun j hj => slot_product m c j (Finset.mem_range.mp hj) t k)
  refine Eq.trans ?_ (sum_order fun j => slotProduct (me c) (loaded m c).x (loaded m c).r j (slotVal m c j) (ix2 t k))
  rw [← accAt_fst m c t k _ (fun _ => rfl) 14]
  rfl

/-- The prior count: the tokens of the earlier devices. -/
theorem accEnd_snd (c : Dev nD) (t : Fin 256) (hw : (tok m c t).toNat < 64) :
    (accEnd m c).2 (ix2 t 0) = ((∑ d, if d < c then onDevice m d (tok m c t) else 0 : ℕ) : EReal) := by
  rw [← sum_slots c fun d => if d < c then onDevice m d (tok m c t) else 0, Nat.cast_sum]
  have hj : ∀ j ∈ Finset.range 32, (if j = 0 then 0 else slotPrior (me c) (loaded m c).q j (slotVal m c j) (ix2 t 0) : EReal)
      = ((if origin c j < c then onDevice m (origin c j) (tok m c t) else 0 : ℕ) : EReal) := by
    intro j hj
    have h32 := Finset.mem_range.mp hj
    by_cases h0 : j = 0
    · rw [if_pos h0, if_neg (fun h => ((origin_lt c j h32).mpr h).1 h0), Nat.cast_zero]
    · rw [if_neg h0, slot_prior m c j h32 h0 t hw]
  refine Eq.trans ?_ (Finset.sum_congr rfl hj)
  refine Eq.trans ?_ (sum_order fun j => if j = 0 then 0 else slotPrior (me c) (loaded m c).q j (slotVal m c j) (ix2 t 0))
  have h := accAt_snd m c t _ (fun _ => rfl) 14
  have e : ∀ j ∈ Finset.range 14, (if 32 - (j + 1) = 0 then 0 else slotPrior (me c) (loaded m c).q (32 - (j + 1)) (slotVal m c (32 - (j + 1))) (ix2 t 0) : EReal)
      = slotPrior (me c) (loaded m c).q (32 - (j + 1)) (slotVal m c (32 - (j + 1))) (ix2 t 0) :=
    fun j hj => if_neg (by have := Finset.mem_range.mp hj; omega)
  rw [Finset.sum_congr rfl e, ← h]
  rfl

/-- The shares of all the devices are the one of the expert's. -/
theorem shares (c : Dev nD) (t k : Fin 256) :
    ∑ d, share m c t k d = if h : (tok m c t).toNat < 64 then
      ∑ i : Fin 128, xIn m c (ix2 t i) * wIn m ⟨(tok m c t).toNat / 2, by show _ < 32; omega⟩ (ix3 ⟨(tok m c t).toNat % 2, by omega⟩ i k) else 0 := by
  split
  case isTrue h =>
    rw [Finset.sum_eq_single (⟨(tok m c t).toNat / 2, by show _ < 32; omega⟩ : Dev nD)]
    · unfold share
      rcases Nat.mod_two_eq_zero_or_one (tok m c t).toNat with h2 | h2
      · rw [if_pos (by show _ = 2 * (_ / 2); omega), if_neg (by show ¬ _ = 2 * (_ / 2) + 1; omega), add_zero]
        simp only [h2]; rfl
      · rw [if_neg (by show ¬ _ = 2 * (_ / 2); omega), if_pos (by show _ = 2 * (_ / 2) + 1; omega), zero_add]
        simp only [h2]; rfl
    · intro d _ hd
      have : d.val ≠ (tok m c t).toNat / 2 := fun h => hd (Fin.ext h)
      unfold share
      rw [if_neg (by omega), if_neg (by omega), add_zero]
    · intro h; exact absurd (Finset.mem_univ _) h
  case isFalse h =>
    refine Finset.sum_eq_zero fun d _ => ?_
    have hd : d.val < 32 := d.isLt
    unfold share
    rw [if_neg (by omega), if_neg (by omega), add_zero]

/-- **What device `c` computes.** -/
theorem outAt_at (c : Dev nD) (t k : Fin 256) :
    outAt m c (ix2 t k) = if h : (tok m c t).toNat < 64 ∧ before m c t < 102 then
      ∑ i : Fin 128, xIn m c (ix2 t i) * wIn m ⟨(tok m c t).toNat / 2, by show _ < 32; omega⟩ (ix3 ⟨(tok m c t).toNat % 2, by omega⟩ i k) else 0 := by
  unfold outAt
  rw [result_at, accEnd_fst, shares]
  by_cases hw : (tok m c t).toNat < 64
  · rw [dif_pos hw, accEnd_snd m c t hw, loaded_p m c t hw, ← Nat.cast_add]
    have hlt : ((before m c t : ℕ) : EReal) < ((102 : ℕ) : EReal) ↔ before m c t < 102 := EReal.natCast_lt_iff
    refine (congrArg _ (ind_congr hlt)).trans ?_
    unfold ind
    by_cases hb : before m c t < 102
    · rw [if_pos hb, dif_pos ⟨hw, hb⟩, mul_one]
    · rw [if_neg hb, dif_neg fun h => hb h.2, mul_zero]
  · rw [dif_neg hw, dif_neg fun h => hw h.1, zero_mul]

end Values

end Cert.Moe

end
-- ==== Proof.Blocks.lean ====
/-
# The devices' results are the blocks of the layer

Device `c` holds tokens `256 c` to `256 c + 255` and experts `2 c` and `2 c + 1`. With the devices' arguments the blocks of
the whole ones, what each device computes is its block of the layer.
-/
module

public import proofs.«01_k».proof.Proof.KernelValue
public import proofs.«01_k».proof.Proof.Spec
public import Idealize.ShloMosaic.Lib.Layout

@[expose] public section

noncomputable section

namespace Cert.Moe

open Cert.KernelIdeal Cert.KernelIdeal.Gen
open Idealize.ShloMosaic Idealize.ShloMosaic.TcCoe

/-- Token `t` of device `c` among all the tokens. -/
def place (c : Fin 32) (t : Fin 256) : Fin 8192 := ⟨c.val * 256 + t.val, by omega⟩

/-- Every token is one of one device's. -/
def allPlaces : Fin 32 × Fin 256 ≃ Fin 8192 where
  toFun p := place p.1 p.2
  invFun n := (⟨n.val / 256, by omega⟩, ⟨n.val % 256, by omega⟩)
  left_inv p := by
    obtain ⟨c, t⟩ := p
    refine Prod.ext (Fin.ext ?_) (Fin.ext ?_)
    · show (c.val * 256 + t.val) / 256 = c.val; omega
    · show (c.val * 256 + t.val) % 256 = t.val; omega
  right_inv n := Fin.ext (by show n.val / 256 * 256 + n.val % 256 = n.val; omega)

theorem place_lt (c d : Fin 32) (t t' : Fin 256) : place d t' < place c t ↔ d < c ∨ (d = c ∧ t' < t) := by
  simp only [place, Fin.lt_def, Fin.ext_iff]
  omega

variable (m : (ℓ : Loc nD τ sig) → Buf (Elt Ideal) ℓ)

/-- The tokens before one, counted device by device. -/
theorem rank_eq (E : Fin 8192 → BitVec 32) (hE : ∀ c t, tok m c t = E (place c t)) (c : Dev nD) (t : Fin 256) :
    rank E (place c t) = before m c t := by
  have hd : ∀ d : Dev nD, (∑ t' : Fin 256, if E (place c t) = E (place d t') ∧ place d t' < place c t then 1 else 0)
      = (if d < c then onDevice m d (tok m c t) else 0) + if c = d then onOwn m c t else 0 := by
    intro d
    simp only [← hE]
    rcases lt_trichotomy d c with h | h | h
    · rw [if_pos h, if_neg h.ne', add_zero, onDevice, Finset.card_filter]
      refine Finset.sum_congr rfl fun t' _ => if_congr ?_ rfl rfl
      rw [place_lt]
      exact ⟨fun h' => h'.1, fun h' => ⟨h', .inl h⟩⟩
    · subst h
      rw [if_neg (lt_irrefl d), if_pos rfl, zero_add, onOwn, Finset.card_filter]
      refine Finset.sum_congr rfl fun t' _ => if_congr ?_ rfl rfl
      rw [place_lt]
      exact and_congr_right fun _ => ⟨fun h' => h'.elim (fun h'' => absurd h'' (lt_irrefl d)) fun h'' => h''.2, fun h' => .inr ⟨rfl, h'⟩⟩
    · rw [if_neg h.not_gt, if_neg h.ne, add_zero]
      refine Finset.sum_eq_zero fun t' _ => if_neg ?_
      rw [place_lt]
      rintro ⟨-, h' | h'⟩
      · exact h.not_gt h'
      · exact h.ne' h'.1
  unfold rank before
  rw [Finset.card_filter, ← Equiv.sum_comp allPlaces, Fintype.sum_prod_type]
  refine (Finset.sum_congr rfl fun d _ => hd d).trans ?_
  rw [Finset.sum_add_distrib, Finset.sum_ite_eq, if_pos (Finset.mem_univ c)]

/-- Rows of a block. -/
theorem block_rows {α : Type} {n : ℕ} (c : Fin 32) (v : (⟨2, ![8192, n]⟩ : Shape).Idx → α)
    (h : Layout.Tiles ⟨2, ![256, n]⟩ ⟨2, ![8192, n]⟩ 0 32) (t : Fin 256) (k : Fin n) :
    Layout.block ⟨2, ![256, n]⟩ ⟨2, ![8192, n]⟩ 0 32 c v h (ix2 t k) = v (ix2 (place c t) k) := by
  refine congrArg v (funext fun a => Fin.ext ?_)
  match a with
  | ⟨0, _⟩ => rfl
  | ⟨1, _⟩ => rfl

/-- Matrices of a block. -/
theorem block_matrix {α : Type} (d : Fin 32) (v : (⟨3, ![64, 128, 256]⟩ : Shape).Idx → α)
    (h : Layout.Tiles ⟨3, ![2, 128, 256]⟩ ⟨3, ![64, 128, 256]⟩ 0 32) (b : Fin 2) (i : Fin 128) (k : Fin 256) :
    Layout.block ⟨3, ![2, 128, 256]⟩ ⟨3, ![64, 128, 256]⟩ 0 32 d v h (ix3 b i k) = v (ix3 ⟨d.val * 2 + b.val, by omega⟩ i k) := by
  refine congrArg v (funext fun a => Fin.ext ?_)
  match a with
  | ⟨0, _⟩ => rfl
  | ⟨1, _⟩ => rfl
  | ⟨2, _⟩ => rfl

/-- **Device `c` computes block `c` of the layer.** -/
theorem outAt_layer (x : FVec Ideal ⟨2, ![8192, 128]⟩ .f32) (e : IVec ⟨2, ![8192, 1]⟩ 32) (W : FVec Ideal ⟨3, ![64, 128, 256]⟩ .f32)
    (hx : ∀ c, xIn m c = Layout.block ⟨2, ![256, 128]⟩ ⟨2, ![8192, 128]⟩ 0 32 c x)
    (he : ∀ c, rIn m c = Layout.block ⟨2, ![256, 1]⟩ ⟨2, ![8192, 1]⟩ 0 32 c e)
    (hW : ∀ c, wIn m c = Layout.block ⟨3, ![2, 128, 256]⟩ ⟨3, ![64, 128, 256]⟩ 0 32 c W) (c : Dev nD) (t k : Fin 256) :
    outAt m c (ix2 t k) = layer x e W (place c t) k := by
  have hE : ∀ c t, tok m c t = e (ix2 (place c t) 0) := fun c t => (congrFun (he c) _).trans (block_rows c e _ t 0)
  rw [outAt_at]
  unfold layer
  have hK : Kept (fun t => e (ix2 t 0)) (place c t) ↔ (tok m c t).toNat < 64 ∧ before m c t < 102 := by
    unfold Kept
    rw [rank_eq m (fun t => e (ix2 t 0)) hE c t, hE]
  by_cases h : (tok m c t).toNat < 64 ∧ before m c t < 102
  · rw [dif_pos h, if_pos (hK.mpr h)]
    refine Finset.sum_congr rfl fun i _ => congrArg₂ (· * ·) ((congrFun (hx c) _).trans (block_rows c x _ t i)) ?_
    refine (congrFun (hW _) _).trans ((block_matrix _ W _ _ i k).trans (congrArg (fun g => W (ix3 g i k)) (Fin.ext ?_)))
    have h64 := h.1
    show (tok m c t).toNat / 2 * 2 + (tok m c t).toNat % 2 = min (e (ix2 (place c t) 0)).toNat 63
    rw [← hE]
    omega
  · rw [dif_neg h, if_neg fun h' => h (hK.mp h')]

end Cert.Moe

end
-- ==== Proof.lean ====
/-
# The claims

The run of the kernel is `Cert.Moe.run_main`, for any reading of the floats; the reference's is the generated one.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.RefValue
public import proofs.«01_k».proof.Proof.Blocks
public import Idealize.ShloMosaic.Adequacy
public import Idealize.ShloMosaic.Init

@[expose] public section

noncomputable section

namespace Cert.Proof

open Idealize.ShloMosaic Idealize.SL.Sem

set_option smartUnfolding false in
/-- The kernel as printed, its floats read as bit patterns. -/
theorem frame_kernel : Cert.quiescent_Kernel := fun m ρ _ => Cert.Moe.run_frame (F := Bits) m ρ

/-- The kernel, its floats read as extended reals. -/
theorem frame_kernelIdeal : Cert.quiescent_KernelIdeal := fun m ρ _ => Cert.Moe.run_frame (F := Ideal) m ρ

/-- The reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

open Cert.Moe in
/-- Block `c` of the reference's result is what device `c` computes. -/
theorem block_refOut (m : (ℓ : Loc Cert.KernelIdeal.nD Cert.KernelIdeal.τ Cert.KernelIdeal.sig) → Buf (Elt Ideal) ℓ)
    (x : FVec Ideal ⟨2, ![8192, 128]⟩ .f32) (e : IVec ⟨2, ![8192, 1]⟩ 32) (W : FVec Ideal ⟨3, ![64, 128, 256]⟩ .f32)
    (hx : ∀ c, xIn m c = Layout.block ⟨2, ![256, 128]⟩ ⟨2, ![8192, 128]⟩ 0 32 c x)
    (he : ∀ c, rIn m c = Layout.block ⟨2, ![256, 1]⟩ ⟨2, ![8192, 1]⟩ 0 32 c e)
    (hW : ∀ c, wIn m c = Layout.block ⟨3, ![2, 128, 256]⟩ ⟨3, ![64, 128, 256]⟩ 0 32 c W) (c : Dev Cert.KernelIdeal.nD) :
    outAt m c = Layout.block ⟨2, ![256, 256]⟩ ⟨2, ![8192, 256]⟩ 0 32 c (refOut x e W) := by
  funext j
  rw [eq_ix2 j]
  exact (outAt_layer m x e W hx he hW c (j 0) (j 1)).trans
    ((refOut_at x e W (place c (j 0)) (j 1)).symm.trans (block_rows c (refOut x e W) _ (j 0) (j 1)).symm)

/-- On every device the kernel ends with its block of the reference's result. -/
theorem algebraic : Cert.algebraic_KernelIdeal_ReferenceIdeal := fun m ρ m' ρ' _ h =>
  ⟨_, (θ_run Cert.KernelIdeal.defs _ _).mono
      (fun _ hr c => ⟨(hr.1 c).1.trans (block_refOut m _ _ _ (fun c => (h c).1) (fun c => (h c).2.2.1) (fun c => (h c).2.2.2) c), (hr.1 c).2⟩)
      (Cert.Moe.run_main (F := Ideal) m ρ),
    (θ_run Cert.ReferenceIdeal.defs _ _).mono (fun _ hr => hr 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
